-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_increasing [hPre_finite_and_increasing : Cert.Pre_finite_and_increasing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_increasing [hPre_finite_and_increasing : Cert.Pre_finite_and_increasing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_increasing [hKernelIdeal : Cert.KernelIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_increasing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_increasing [hReferenceIdeal : Cert.ReferenceIdeal.Facts] [hPre_finite_and_increasing : Cert.Pre_finite_and_increasing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_increasing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "two_scale" .f32 0x3E3504F3#32 ((2 * (Real.sqrt 128)⁻¹ : ℝ) : EReal)

def algebraic_KernelIdeal_ReferenceIdeal_pre_finite_and_increasing [hKernelIdeal : Cert.KernelIdeal.Facts] [hReferenceIdeal : Cert.ReferenceIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_increasing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_increasing : Cert.Pre_finite_and_increasing.Facts),
    quiescent_Kernel (hKernel := hKernel)
    ∧ quiescent_KernelIdeal (hKernelIdeal := hKernelIdeal)
    ∧ quiescent_KernelIdeal_pre_finite_and_increasing (hKernelIdeal := hKernelIdeal) (hPre_finite_and_increasing := hPre_finite_and_increasing)
    ∧ quiescent_ReferenceIdeal (hReferenceIdeal := hReferenceIdeal)
    ∧ quiescent_ReferenceIdeal_pre_finite_and_increasing (hReferenceIdeal := hReferenceIdeal) (hPre_finite_and_increasing := hPre_finite_and_increasing)
    ∧ preserves_Kernel_KernelIdeal
    ∧ algebraic_KernelIdeal_ReferenceIdeal_pre_finite_and_increasing (hKernelIdeal := hKernelIdeal) (hReferenceIdeal := hReferenceIdeal) (hPre_finite_and_increasing := hPre_finite_and_increasing)
-- ==== Pre_finite_and_increasing.lean ====
abbrev S65536x128 : Shape := ⟨2, ![65536, 128]⟩
abbrev S128 : Shape := ⟨1, ![128]⟩
abbrev S16 : Shape := ⟨1, ![16]⟩
abbrev S_ : Shape := ⟨0, ![]⟩
abbrev S15 : Shape := ⟨1, ![15]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128 : S_.BroadcastsInDim S128 (![] : Fin 0 → Fin S128.rank)
  reducesTo_S128_S_d0 : S128.ReducesTo [0] S_
  bcast_S_S16 : S_.BroadcastsInDim S16 (![] : Fin 0 → Fin S16.rank)
  reducesTo_S16_S_d0 : S16.ReducesTo [0] S_
  slices_S16_S15_0 : S16.Slices ![0] S15
  slices_S16_S15_1 : S16.Slices ![1] S15
  reducesTo_S15_S_d0 : S15.ReducesTo [0] S_

variable [Facts]

def fn_part1 {F : FTy → Type} [FloatOps F] (main_v13 : IVec S_ 1) (main_v16 : IVec S15 1) (main_c_4 : IVec S_ 1) : IVec S_ 1 :=
  let main_v17 : IVec S_ 1 := (fun x v => Host.reduce IntOp.andi x v reducesTo_S15_S_d0 h_S_) main_v16 main_c_4
  let main_v18 : IVec S_ 1 := andi main_v13 main_v17
  main_v18

def fn {F : FTy → Type} [FloatOps F] (main_arg0 : FVec F S65536x128 .f32) (main_arg1 : FVec F S128 .f32) (main_arg2 : FVec F S16 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S15 .f32 := (extractStridedSlice S15 ![0] · slices_S16_S15_0) main_arg2
  let main_v15 : FVec F S15 .f32 := (extractStridedSlice S15 ![1] · slices_S16_S15_1) main_arg2
  let main_v16 : IVec S15 1 := cmpf .olt main_v14 main_v15
  let main_c_4 : IVec S_ 1 := constantI S_ 1 1#1
  fn_part1 (F := F) main_v13 main_v16 main_c_4
-- ==== Kernel.lean ====
abbrev S65536x128 : Shape := ⟨2, ![65536, 128]⟩
abbrev S128 : Shape := ⟨1, ![128]⟩
abbrev S16 : Shape := ⟨1, ![16]⟩
abbrev S128x128 : Shape := ⟨2, ![128, 128]⟩
abbrev S_ : Shape := ⟨0, ![]⟩
abbrev S128x1 : Shape := ⟨2, ![128, 1]⟩
abbrev S1x128 : Shape := ⟨2, ![1, 128]⟩
abbrev S15 : Shape := ⟨1, ![15]⟩
abbrev S8192x128 : Shape := ⟨2, ![8192, 128]⟩
abbrev S1 : Shape := ⟨1, ![1]⟩

abbrev nBuf : Space → Nat
  | .hbm => 28
  | .vmem => 8
  | .smem => 2
  | _ => 0

abbrev bufTy : (tb : Table) → Fin (tcTables nBuf tb) → BufTy
  | .hbm, ⟨0, _⟩ => ⟨S65536x128, .f32⟩
  | .hbm, ⟨1, _⟩ => ⟨S128, .f32⟩
  | .hbm, ⟨2, _⟩ => ⟨S16, .f32⟩
  | .hbm, ⟨3, _⟩ => ⟨S128x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128x1, .f32⟩
  | .hbm, ⟨9, _⟩ => ⟨S128x128, .f32⟩
  | .hbm, ⟨10, _⟩ => ⟨S128x128, .f32⟩
  | .hbm, ⟨11, _⟩ => ⟨S128x128, .bf16⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .bf16⟩
  | .hbm, ⟨18, _⟩ => ⟨S15, .f32⟩
  | .hbm, ⟨19, _⟩ => ⟨S15, .f32⟩
  | .hbm, ⟨20, _⟩ => ⟨S15, .f32⟩
  | .hbm, ⟨21, _⟩ => ⟨S_, .f32⟩
  | .hbm, ⟨22, _⟩ => ⟨S15, .f32⟩
  | .hbm, ⟨23, _⟩ => ⟨S15, .f32⟩
  | .hbm, ⟨24, _⟩ => ⟨S15, .f32⟩
  | .hbm, ⟨25, _⟩ => ⟨S15, .f32⟩
  | .hbm, ⟨26, _⟩ => ⟨S65536x128, .f32⟩
  | .hbm, ⟨27, _⟩ => ⟨S65536x128, .i32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S128x128, .bf16⟩
  | .local _ .vmem, ⟨4, _⟩ => ⟨S8192x128, .f32⟩
  | .local _ .vmem, ⟨5, _⟩ => ⟨S8192x128, .f32⟩
  | .local _ .vmem, ⟨6, _⟩ => ⟨S8192x128, .i32⟩
  | .local _ .vmem, ⟨7, _⟩ => ⟨S8192x128, .i32⟩
  | .local _ .smem, ⟨0, _⟩ => ⟨S15, .f32⟩
  | .local _ .smem, ⟨1, _⟩ => ⟨S16, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "two_scale" => some ((2 * (Real.sqrt 128)⁻¹ : ℝ) : EReal)
  | _ => none
-- ==== ReferenceIdeal.lean ====
abbrev S65536x128 : Shape := ⟨2, ![65536, 128]⟩
abbrev S128 : Shape := ⟨1, ![128]⟩
abbrev S16 : Shape := ⟨1, ![16]⟩
abbrev S_ : Shape := ⟨0, ![]⟩
abbrev S1x128 : Shape := ⟨2, ![1, 128]⟩
abbrev S65536x64x2x1 : Shape := ⟨4, ![65536, 64, 2, 1]⟩
abbrev S65536x64x1x1 : Shape := ⟨4, ![65536, 64, 1, 1]⟩
abbrev S65536x64x1 : Shape := ⟨3, ![65536, 64, 1]⟩
abbrev S65536x32x2x2 : Shape := ⟨4, ![65536, 32, 2, 2]⟩
abbrev S65536x32x1x2 : Shape := ⟨4, ![65536, 32, 1, 2]⟩
abbrev S65536x32x2 : Shape := ⟨3, ![65536, 32, 2]⟩
abbrev S65536x16x2x4 : Shape := ⟨4, ![65536, 16, 2, 4]⟩
abbrev S65536x16x1x4 : Shape := ⟨4, ![65536, 16, 1, 4]⟩
abbrev S65536x16x4 : Shape := ⟨3, ![65536, 16, 4]⟩
abbrev S65536x8x2x8 : Shape := ⟨4, ![65536, 8, 2, 8]⟩
abbrev S65536x8x1x8 : Shape := ⟨4, ![65536, 8, 1, 8]⟩
abbrev S65536x8x8 : Shape := ⟨3, ![65536, 8, 8]⟩
abbrev S65536x4x2x16 : Shape := ⟨4, ![65536, 4, 2, 16]⟩
abbrev S65536x4x1x16 : Shape := ⟨4, ![65536, 4, 1, 16]⟩
abbrev S65536x4x16 : Shape := ⟨3, ![65536, 4, 16]⟩
abbrev S65536x2x2x32 : Shape := ⟨4, ![65536, 2, 2, 32]⟩
abbrev S65536x2x1x32 : Shape := ⟨4, ![65536, 2, 1, 32]⟩
abbrev S65536x2x32 : Shape := ⟨3, ![65536, 2, 32]⟩
abbrev S65536x1x2x64 : Shape := ⟨4, ![65536, 1, 2, 64]⟩
abbrev S65536x1x1x64 : Shape := ⟨4, ![65536, 1, 1, 64]⟩
abbrev S65536x1x64 : Shape := ⟨3, ![65536, 1, 64]⟩
abbrev S1 : Shape := ⟨1, ![1]⟩
abbrev S65536x128x1 : Shape := ⟨3, ![65536, 128, 1]⟩
abbrev S1x1x1 : Shape := ⟨3, ![1, 1, 1]⟩

abbrev nBuf : Space → Nat
  | .hbm => 345
  | .vmem => 0
  | .smem => 0
  | _ => 0

abbrev hbmTy0_0 (i : Nat) : BufTy := match i % 128 with
  | 0 => ⟨S65536x128, .f32⟩
  | 1 => ⟨S128, .f32⟩
  | 2 => ⟨S16, .f32⟩
  | 3 => ⟨S_, .f32⟩
  | 4 => ⟨S_, .f32⟩
  | 5 => ⟨S_, .f32⟩
  | 6 => ⟨S_, .f32⟩
  | 7 => ⟨S1x128, .f32⟩
  | 8 => ⟨S65536x128, .f32⟩
  | 9 => ⟨S65536x128, .f32⟩
  | 10 => ⟨S65536x64x2x1, .f32⟩
  | 11 => ⟨S65536x64x1x1, .f32⟩
  | 12 => ⟨S65536x64x1, .f32⟩
  | 13 => ⟨S65536x64x1x1, .f32⟩
  | 14 => ⟨S65536x64x1, .f32⟩
  | 15 => ⟨S65536x64x1, .f32⟩
  | 16 => ⟨S65536x64x1, .f32⟩
  | 17 => ⟨S65536x64x1x1, .f32⟩
  | 18 => ⟨S65536x64x1x1, .f32⟩
  | 19 => ⟨S65536x64x2x1, .f32⟩
  | 20 => ⟨S65536x32x2x2, .f32⟩
  | 21 => ⟨S65536x32x1x2, .f32⟩
  | 22 => ⟨S65536x32x2, .f32⟩
  | 23 => ⟨S65536x32x1x2, .f32⟩
  | 24 => ⟨S65536x32x2, .f32⟩
  | 25 => ⟨S65536x32x2, .f32⟩
  | 26 => ⟨S65536x32x2, .f32⟩
  | 27 => ⟨S65536x32x1x2, .f32⟩
  | 28 => ⟨S65536x32x1x2, .f32⟩
  | 29 => ⟨S65536x32x2x2, .f32⟩
  | 30 => ⟨S65536x16x2x4, .f32⟩
  | 31 => ⟨S65536x16x1x4, .f32⟩
  | 32 => ⟨S65536x16x4, .f32⟩
  | 33 => ⟨S65536x16x1x4, .f32⟩
  | 34 => ⟨S65536x16x4, .f32⟩
  | 35 => ⟨S65536x16x4, .f32⟩
  | 36 => ⟨S65536x16x4, .f32⟩
  | 37 => ⟨S65536x16x1x4, .f32⟩
  | 38 => ⟨S65536x16x1x4, .f32⟩
  | 39 => ⟨S65536x16x2x4, .f32⟩
  | 40 => ⟨S65536x8x2x8, .f32⟩
  | 41 => ⟨S65536x8x1x8, .f32⟩
  | 42 => ⟨S65536x8x8, .f32⟩
  | 43 => ⟨S65536x8x1x8, .f32⟩
  | 44 => ⟨S65536x8x8, .f32⟩
  | 45 => ⟨S65536x8x8, .f32⟩
  | 46 => ⟨S65536x8x8, .f32⟩
  | 47 => ⟨S65536x8x1x8, .f32⟩
  | 48 => ⟨S65536x8x1x8, .f32⟩
  | 49 => ⟨S65536x8x2x8, .f32⟩
  | 50 => ⟨S65536x4x2x16, .f32⟩
  | 51 => ⟨S65536x4x1x16, .f32⟩
  | 52 => ⟨S65536x4x16, .f32⟩
  | 53 => ⟨S65536x4x1x16, .f32⟩
  | 54 => ⟨S65536x4x16, .f32⟩
  | 55 => ⟨S65536x4x16, .f32⟩
  | 56 => ⟨S65536x4x16, .f32⟩
  | 57 => ⟨S65536x4x1x16, .f32⟩
  | 58 => ⟨S65536x4x1x16, .f32⟩
  | 59 => ⟨S65536x4x2x16, .f32⟩
  | 60 => ⟨S65536x2x2x32, .f32⟩
  | 61 => ⟨S65536x2x1x32, .f32⟩
  | 62 => ⟨S65536x2x32, .f32⟩
  | 63 => ⟨S65536x2x1x32, .f32⟩
  | 64 => ⟨S65536x2x32, .f32⟩
  | 65 => ⟨S65536x2x32, .f32⟩
  | 66 => ⟨S65536x2x32, .f32⟩
  | 67 => ⟨S65536x2x1x32, .f32⟩
  | 68 => ⟨S65536x2x1x32, .f32⟩
  | 69 => ⟨S65536x2x2x32, .f32⟩
  | 70 => ⟨S65536x1x2x64, .f32⟩
  | 71 => ⟨S65536x1x1x64, .f32⟩
  | 72 => ⟨S65536x1x64, .f32⟩
  | 73 => ⟨S65536x1x1x64, .f32⟩
  | 74 => ⟨S65536x1x64, .f32⟩
  | 75 => ⟨S65536x1x64, .f32⟩
  | 76 => ⟨S65536x1x64, .f32⟩
  | 77 => ⟨S65536x1x1x64, .f32⟩
  | 78 => ⟨S65536x1x1x64, .f32⟩
  | 79 => ⟨S65536x1x2x64, .f32⟩
  | 80 => ⟨S65536x128, .f32⟩
  | 81 => ⟨S65536x128, .f32⟩
  | 82 => ⟨S65536x128, .f32⟩
  | 83 => ⟨S_, .f32⟩
  | 84 => ⟨S65536x128, .f32⟩
  | 85 => ⟨S_, .i32⟩
  | 86 => ⟨S65536x128, .i32⟩
  | 87 => ⟨S1, .f32⟩
  | 88 => ⟨S_, .f32⟩
  | 89 => ⟨S65536x128, .f32⟩
  | 90 => ⟨S65536x128, .f32⟩
  | 91 => ⟨S65536x128, .f32⟩
  | 92 => ⟨S65536x128, .i1⟩
  | 93 => ⟨S65536x128, .f32⟩
  | 94 => ⟨S_, .i32⟩
  | 95 => ⟨S65536x128, .i32⟩
  | 96 => ⟨S65536x128, .i32⟩
  | 97 => ⟨S1, .f32⟩
  | 98 => ⟨S_, .f32⟩
  | 99 => ⟨S65536x128, .f32⟩
  | 100 => ⟨S65536x128, .f32⟩
  | 101 => ⟨S65536x128, .f32⟩
  | 102 => ⟨S65536x128, .i1⟩
  | 103 => ⟨S65536x128, .f32⟩
  | 104 => ⟨S_, .i32⟩
  | 105 => ⟨S65536x128, .i32⟩
  | 106 => ⟨S65536x128, .i32⟩
  | 107 => ⟨S1, .f32⟩
  | 108 => ⟨S_, .f32⟩
  | 109 => ⟨S65536x128, .f32⟩
  | 110 => ⟨S65536x128, .f32⟩
  | 111 => ⟨S65536x128, .f32⟩
  | 112 => ⟨S65536x128, .i1⟩
  | 113 => ⟨S65536x128, .f32⟩
  | 114 => ⟨S_, .i32⟩
  | 115 => ⟨S65536x128, .i32⟩
  | 116 => ⟨S65536x128, .i32⟩
  | 117 => ⟨S1, .f32⟩
  | 118 => ⟨S_, .f32⟩
  | 119 => ⟨S65536x128, .f32⟩
  | 120 => ⟨S65536x128, .f32⟩
  | 121 => ⟨S65536x128, .f32⟩
  | 122 => ⟨S65536x128, .i1⟩
  | 123 => ⟨S65536x128, .f32⟩
  | 124 => ⟨S_, .i32⟩
  | 125 => ⟨S65536x128, .i32⟩
  | 126 => ⟨S65536x128, .i32⟩
  | 127 => ⟨S1, .f32⟩
  | _ => ⟨S65536x128, .f32⟩

abbrev hbmTy0_1 (i : Nat) : BufTy := match i % 128 with
  | 0 => ⟨S_, .f32⟩
  | 1 => ⟨S65536x128, .f32⟩
  | 2 => ⟨S65536x128, .f32⟩
  | 3 => ⟨S65536x128, .f32⟩
  | 4 => ⟨S65536x128, .i1⟩
  | 5 => ⟨S65536x128, .f32⟩
  | 6 => ⟨S_, .i32⟩
  | 7 => ⟨S65536x128, .i32⟩
  | 8 => ⟨S65536x128, .i32⟩
  | 9 => ⟨S1, .f32⟩
  | 10 => ⟨S_, .f32⟩
  | 11 => ⟨S65536x128, .f32⟩
  | 12 => ⟨S65536x128, .f32⟩
  | 13 => ⟨S65536x128, .f32⟩
  | 14 => ⟨S65536x128, .i1⟩
  | 15 => ⟨S65536x128, .f32⟩
  | 16 => ⟨S_, .i32⟩
  | 17 => ⟨S65536x128, .i32⟩
  | 18 => ⟨S65536x128, .i32⟩
  | 19 => ⟨S1, .f32⟩
  | 20 => ⟨S_, .f32⟩
  | 21 => ⟨S65536x128, .f32⟩
  | 22 => ⟨S65536x128, .f32⟩
  | 23 => ⟨S65536x128, .f32⟩
  | 24 => ⟨S65536x128, .i1⟩
  | 25 => ⟨S65536x128, .f32⟩
  | 26 => ⟨S_, .i32⟩
  | 27 => ⟨S65536x128, .i32⟩
  | 28 => ⟨S65536x128, .i32⟩
  | 29 => ⟨S1, .f32⟩
  | 30 => ⟨S_, .f32⟩
  | 31 => ⟨S65536x128, .f32⟩
  | 32 => ⟨S65536x128, .f32⟩
  | 33 => ⟨S65536x128, .f32⟩
  | 34 => ⟨S65536x128, .i1⟩
  | 35 => ⟨S65536x128, .f32⟩
  | 36 => ⟨S_, .i32⟩
  | 37 => ⟨S65536x128, .i32⟩
  | 38 => ⟨S65536x128, .i32⟩
  | 39 => ⟨S1, .f32⟩
  | 40 => ⟨S_, .f32⟩
  | 41 => ⟨S65536x128, .f32⟩
  | 42 => ⟨S65536x128, .f32⟩
  | 43 => ⟨S65536x128, .f32⟩
  | 44 => ⟨S65536x128, .i1⟩
  | 45 => ⟨S65536x128, .f32⟩
  | 46 => ⟨S_, .i32⟩
  | 47 => ⟨S65536x128, .i32⟩
  | 48 => ⟨S65536x128, .i32⟩
  | 49 => ⟨S1, .f32⟩
  | 50 => ⟨S_, .f32⟩
  | 51 => ⟨S65536x128, .f32⟩
  | 52 => ⟨S65536x128, .f32⟩
  | 53 => ⟨S65536x128, .f32⟩
  | 54 => ⟨S65536x128, .i1⟩
  | 55 => ⟨S65536x128, .f32⟩
  | 56 => ⟨S_, .i32⟩
  | 57 => ⟨S65536x128, .i32⟩
  | 58 => ⟨S65536x128, .i32⟩
  | 59 => ⟨S1, .f32⟩
  | 60 => ⟨S_, .f32⟩
  | 61 => ⟨S65536x128, .f32⟩
  | 62 => ⟨S65536x128, .f32⟩
  | 63 => ⟨S65536x128, .f32⟩
  | 64 => ⟨S65536x128, .i1⟩
  | 65 => ⟨S65536x128, .f32⟩
  | 66 => ⟨S_, .i32⟩
  | 67 => ⟨S65536x128, .i32⟩
  | 68 => ⟨S65536x128, .i32⟩
  | 69 => ⟨S1, .f32⟩
  | 70 => ⟨S_, .f32⟩
  | 71 => ⟨S65536x128, .f32⟩
  | 72 => ⟨S65536x128, .f32⟩
  | 73 => ⟨S65536x128, .f32⟩
  | 74 => ⟨S65536x128, .i1⟩
  | 75 => ⟨S65536x128, .f32⟩
  | 76 => ⟨S_, .i32⟩
  | 77 => ⟨S65536x128, .i32⟩
  | 78 => ⟨S65536x128, .i32⟩
  | 79 => ⟨S1, .f32⟩
  | 80 => ⟨S_, .f32⟩
  | 81 => ⟨S65536x128, .f32⟩
  | 82 => ⟨S65536x128, .f32⟩
  | 83 => ⟨S65536x128, .f32⟩
  | 84 => ⟨S65536x128, .i1⟩
  | 85 => ⟨S65536x128, .f32⟩
  | 86 => ⟨S_, .i32⟩
  | 87 => ⟨S65536x128, .i32⟩
  | 88 => ⟨S65536x128, .i32⟩
  | 89 => ⟨S1, .f32⟩
  | 90 => ⟨S_, .f32⟩
  | 91 => ⟨S65536x128, .f32⟩
  | 92 => ⟨S65536x128, .f32⟩
  | 93 => ⟨S65536x128, .f32⟩
  | 94 => ⟨S65536x128, .i1⟩
  | 95 => ⟨S65536x128, .f32⟩
  | 96 => ⟨S_, .i32⟩
  | 97 => ⟨S65536x128, .i32⟩
  | 98 => ⟨S65536x128, .i32⟩
  | 99 => ⟨S1, .f32⟩
  | 100 => ⟨S_, .f32⟩
  | 101 => ⟨S65536x128, .f32⟩
  | 102 => ⟨S65536x128, .f32⟩
  | 103 => ⟨S65536x128, .f32⟩
  | 104 => ⟨S65536x128, .i1⟩
  | 105 => ⟨S65536x128, .f32⟩
  | 106 => ⟨S_, .i32⟩
  | 107 => ⟨S65536x128, .i32⟩
  | 108 => ⟨S65536x128, .i32⟩
  | 109 => ⟨S1, .f32⟩
  | 110 => ⟨S_, .f32⟩
  | 111 => ⟨S65536x128, .f32⟩
  | 112 => ⟨S65536x128, .f32⟩
  | 113 => ⟨S65536x128, .f32⟩
  | 114 => ⟨S65536x128, .i1⟩
  | 115 => ⟨S65536x128, .f32⟩
  | 116 => ⟨S_, .i32⟩
  | 117 => ⟨S65536x128, .i32⟩
  | 118 => ⟨S65536x128, .i32⟩
  | 119 => ⟨S_, .i32⟩
  | 120 => ⟨S65536x128, .i32⟩
  | 121 => ⟨S65536x128, .i1⟩
  | 122 => ⟨S_, .i32⟩
  | 123 => ⟨S65536x128, .i32⟩
  | 124 => ⟨S65536x128, .i32⟩
  | 125 => ⟨S65536x128, .i32⟩
  | 126 => ⟨S65536x128x1, .i32⟩
  | 127 => ⟨S1, .i32⟩
  | _ => ⟨S65536x128, .f32⟩

abbrev hbmTy0_2 (i : Nat) : BufTy := match i % 128 with
  | 0 => ⟨S_, .i32⟩
  | 1 => ⟨S65536x128x1, .i32⟩
  | 2 => ⟨S65536x128x1, .i1⟩
  | 3 => ⟨S1x1x1, .i32⟩
  | 4 => ⟨S65536x128x1, .i32⟩
  | 5 => ⟨S65536x128x1, .i1⟩
  | 6 => ⟨S65536x128x1, .i1⟩
  | 7 => ⟨S_, .i1⟩
  | 8 => ⟨S65536x128, .i1⟩
  | 9 => ⟨S65536x128, .f32⟩
  | 10 => ⟨S_, .f32⟩
  | 11 => ⟨S65536x128, .f32⟩
  | 12 => ⟨S65536x128, .f32⟩
  | 13 => ⟨S65536x64x2x1, .f32⟩
  | 14 => ⟨S65536x64x1x1, .f32⟩
  | 15 => ⟨S65536x64x1, .f32⟩
  | 16 => ⟨S65536x64x1x1, .f32⟩
  | 17 => ⟨S65536x64x1, .f32⟩
  | 18 => ⟨S65536x64x1, .f32⟩
  | 19 => ⟨S65536x64x1, .f32⟩
  | 20 => ⟨S65536x64x1x1, .f32⟩
  | 21 => ⟨S65536x64x1x1, .f32⟩
  | 22 => ⟨S65536x64x2x1, .f32⟩
  | 23 => ⟨S65536x32x2x2, .f32⟩
  | 24 => ⟨S65536x32x1x2, .f32⟩
  | 25 => ⟨S65536x32x2, .f32⟩
  | 26 => ⟨S65536x32x1x2, .f32⟩
  | 27 => ⟨S65536x32x2, .f32⟩
  | 28 => ⟨S65536x32x2, .f32⟩
  | 29 => ⟨S65536x32x2, .f32⟩
  | 30 => ⟨S65536x32x1x2, .f32⟩
  | 31 => ⟨S65536x32x1x2, .f32⟩
  | 32 => ⟨S65536x32x2x2, .f32⟩
  | 33 => ⟨S65536x16x2x4, .f32⟩
  | 34 => ⟨S65536x16x1x4, .f32⟩
  | 35 => ⟨S65536x16x4, .f32⟩
  | 36 => ⟨S65536x16x1x4, .f32⟩
  | 37 => ⟨S65536x16x4, .f32⟩
  | 38 => ⟨S65536x16x4, .f32⟩
  | 39 => ⟨S65536x16x4, .f32⟩
  | 40 => ⟨S65536x16x1x4, .f32⟩
  | 41 => ⟨S65536x16x1x4, .f32⟩
  | 42 => ⟨S65536x16x2x4, .f32⟩
  | 43 => ⟨S65536x8x2x8, .f32⟩
  | 44 => ⟨S65536x8x1x8, .f32⟩
  | 45 => ⟨S65536x8x8, .f32⟩
  | 46 => ⟨S65536x8x1x8, .f32⟩
  | 47 => ⟨S65536x8x8, .f32⟩
  | 48 => ⟨S65536x8x8, .f32⟩
  | 49 => ⟨S65536x8x8, .f32⟩
  | 50 => ⟨S65536x8x1x8, .f32⟩
  | 51 => ⟨S65536x8x1x8, .f32⟩
  | 52 => ⟨S65536x8x2x8, .f32⟩
  | 53 => ⟨S65536x4x2x16, .f32⟩
  | 54 => ⟨S65536x4x1x16, .f32⟩
  | 55 => ⟨S65536x4x16, .f32⟩
  | 56 => ⟨S65536x4x1x16, .f32⟩
  | 57 => ⟨S65536x4x16, .f32⟩
  | 58 => ⟨S65536x4x16, .f32⟩
  | 59 => ⟨S65536x4x16, .f32⟩
  | 60 => ⟨S65536x4x1x16, .f32⟩
  | 61 => ⟨S65536x4x1x16, .f32⟩
  | 62 => ⟨S65536x4x2x16, .f32⟩
  | 63 => ⟨S65536x2x2x32, .f32⟩
  | 64 => ⟨S65536x2x1x32, .f32⟩
  | 65 => ⟨S65536x2x32, .f32⟩
  | 66 => ⟨S65536x2x1x32, .f32⟩
  | 67 => ⟨S65536x2x32, .f32⟩
  | 68 => ⟨S65536x2x32, .f32⟩
  | 69 => ⟨S65536x2x32, .f32⟩
  | 70 => ⟨S65536x2x1x32, .f32⟩
  | 71 => ⟨S65536x2x1x32, .f32⟩
  | 72 => ⟨S65536x2x2x32, .f32⟩
  | 73 => ⟨S65536x1x2x64, .f32⟩
  | 74 => ⟨S65536x1x1x64, .f32⟩
  | 75 => ⟨S65536x1x64, .f32⟩
  | 76 => ⟨S65536x1x1x64, .f32⟩
  | 77 => ⟨S65536x1x64, .f32⟩
  | 78 => ⟨S65536x1x64, .f32⟩
  | 79 => ⟨S65536x1x64, .f32⟩
  | 80 => ⟨S65536x1x1x64, .f32⟩
  | 81 => ⟨S65536x1x1x64, .f32⟩
  | 82 => ⟨S65536x1x2x64, .f32⟩
  | 83 => ⟨S65536x128, .f32⟩
  | 84 => ⟨S65536x128, .f32⟩
  | 85 => ⟨S65536x128, .f32⟩
  | 86 => ⟨S1x128, .f32⟩
  | 87 => ⟨S65536x128, .f32⟩
  | 88 => ⟨S65536x128, .f32⟩
  | _ => ⟨S65536x128, .f32⟩

abbrev hbmTy (i : Nat) : BufTy := match i / 128 with
  | 0 => hbmTy0_0 i
  | 1 => hbmTy0_1 i
  | 2 => hbmTy0_2 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_cst_1 : Ref sig .tc := ⟨.hbm, 83, rfl⟩
abbrev main_v78 : Ref sig .tc := ⟨.hbm, 84, rfl⟩
abbrev main_c : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_c_2 : Ref sig .tc := ⟨.hbm, 94, rfl⟩
abbrev main_call1_v0 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_c_3 : Ref sig .tc := ⟨.hbm, 104, rfl⟩
abbrev main_call3_v0 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_c_4 : Ref sig .tc := ⟨.hbm, 114, rfl⟩
abbrev main_call5_v0 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_c_5 : Ref sig .tc := ⟨.hbm, 124, rfl⟩
abbrev main_call7_v0 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_c_6 : Ref sig .tc := ⟨.hbm, 134, rfl⟩
abbrev main_call9_v0 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_c_7 : Ref sig .tc := ⟨.hbm, 144, rfl⟩
abbrev main_call11_v0 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_c_8 : Ref sig .tc := ⟨.hbm, 154, rfl⟩
abbrev main_call13_v0 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_c_9 : Ref sig .tc := ⟨.hbm, 164, rfl⟩
abbrev main_call15_v0 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_c_10 : Ref sig .tc := ⟨.hbm, 174, rfl⟩
abbrev main_call17_v0 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_c_11 : Ref sig .tc := ⟨.hbm, 184, rfl⟩
abbrev main_call19_v0 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_c_12 : Ref sig .tc := ⟨.hbm, 194, rfl⟩
abbrev main_call21_v0 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_c_13 : Ref sig .tc := ⟨.hbm, 204, rfl⟩
abbrev main_call23_v0 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_c_14 : Ref sig .tc := ⟨.hbm, 214, rfl⟩
abbrev main_call25_v0 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_c_15 : Ref sig .tc := ⟨.hbm, 224, rfl⟩
abbrev main_call27_v0 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_c_16 : Ref sig .tc := ⟨.hbm, 234, rfl⟩
abbrev main_call29_v0 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_c_17 : Ref sig .tc := ⟨.hbm, 244, rfl⟩
abbrev main_call31_v0 : Ref sig .tc := ⟨.hbm, 245, rfl⟩
abbrev main_v207 : Ref sig .tc := ⟨.hbm, 246, rfl⟩
abbrev main_call32_c : Ref sig .tc := ⟨.hbm, 247, rfl⟩
abbrev main_call32_v0 : Ref sig .tc := ⟨.hbm, 248, rfl⟩
abbrev main_call32_v1 : Ref sig .tc := ⟨.hbm, 249, rfl⟩
abbrev main_call32_c_0 : Ref sig .tc := ⟨.hbm, 250, rfl⟩
abbrev main_call32_v2 : Ref sig .tc := ⟨.hbm, 251, rfl⟩
abbrev main_call32_v3 : Ref sig .tc := ⟨.hbm, 252, rfl⟩
abbrev main_call32_v4 : Ref sig .tc := ⟨.hbm, 253, rfl⟩
abbrev main_call32_v5 : Ref sig .tc := ⟨.hbm, 254, rfl⟩
abbrev main_call32_c_1 : Ref sig .tc := ⟨.hbm, 255, rfl⟩
abbrev main_call32_c_2 : Ref sig .tc := ⟨.hbm, 256, rfl⟩
abbrev main_call32_v6 : Ref sig .tc := ⟨.hbm, 257, rfl⟩
abbrev main_call32_v7 : Ref sig .tc := ⟨.hbm, 258, rfl⟩
abbrev main_call32_v8 : Ref sig .tc := ⟨.hbm, 259, rfl⟩
abbrev main_call32_v9 : Ref sig .tc := ⟨.hbm, 260, rfl⟩
abbrev main_call32_v10 : Ref sig .tc := ⟨.hbm, 261, rfl⟩
abbrev main_call32_v11 : Ref sig .tc := ⟨.hbm, 262, rfl⟩
abbrev main_call32_c_3 : Ref sig .tc := ⟨.hbm, 263, rfl⟩
abbrev main_call32_v12 : Ref sig .tc := ⟨.hbm, 264, rfl⟩
abbrev main_call32_v13 : Ref sig .tc := ⟨.hbm, 265, rfl⟩
abbrev main_call32_cst : Ref sig .tc := ⟨.hbm, 266, rfl⟩
abbrev main_call32_v14 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩

abbrev nD : Nat := 1
abbrev τ : Topo := Topo.v7x

variable {F : FTy → Type} [FloatOps F]
-- ==== Proof.Frames.lean ====
/- The frames of the three programs, and the one entry of the idealization's ledger. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_and_increasing
public import Idealize.ShloMosaic.Lib.Quiescent

@[expose] public section

noncomputable section

open Idealize.ShloMosaic Idealize.ShloMosaic.TcCoe Idealize.SL.Sem

namespace Cert.Proof.Frames

/-- The kernel on machine words: it ends, keeps its arguments, and leaves every counter at zero. -/
theorem kernel : Cert.quiescent_Kernel := fun m ρ _ => Cert.Kernel.Gen.frame m ρ

/-- The same of the kernel over the extended reals. -/
theorem kernelIdeal : Cert.quiescent_KernelIdeal := fun m ρ _ => Cert.KernelIdeal.Gen.frame m ρ

/-- The same of the reference over the extended reals, which has no counters. -/
theorem referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The kernel's under the precondition, which it doesn't need. -/
theorem kernelIdeal_pre : Cert.quiescent_KernelIdeal_pre_finite_and_increasing := fun m ρ _ => kernelIdeal m ρ trivial

/-- The reference's under the precondition. -/
theorem referenceIdeal_pre : Cert.quiescent_ReferenceIdeal_pre_finite_and_increasing := fun m ρ _ => referenceIdeal m ρ trivial

/-- The named constant is the float of the real that it names. -/
theorem preserves : Cert.preserves_Kernel_KernelIdeal :=
  IdealRules.named_const.statement Cert.KernelIdeal.κ "two_scale" .f32 0x3E3504F3#32
    ((2 * (Real.sqrt 128)⁻¹ : ℝ) : EReal) rfl

end Cert.Proof.Frames

end
-- ==== Proof.Consts.lean ====
/- The printed float constants as numbers. -/
module

public import Idealize.ShloMosaic.PureOps.Ideal
public import Mathlib.Tactic.NormNum

@[expose] public section

noncomputable section

namespace Cert.Proof

open Idealize.ShloMosaic

/-- Zero. -/
theorem bits_zero : Ideal.ofBits .f32 0x00000000#32 = ((0 : ℝ) : EReal) := by
  simp [Ideal.ofBits, Ideal.ieee]

/-- One. -/
theorem bits_one : Ideal.ofBits .f32 0x3F800000#32 = ((1 : ℝ) : EReal) := by
  simp [Ideal.ofBits, Ideal.ieee, -EReal.coe_mul]; norm_num

/-- Minus one. -/
theorem bits_neg_one : Ideal.ofBits .f32 0xBF800000#32 = ((-1 : ℝ) : EReal) := by
  simp [Ideal.ofBits, Ideal.ieee, -EReal.coe_mul, -EReal.coe_neg]; norm_num

/-- One half. -/
theorem bits_half : Ideal.ofBits .f32 0x3F000000#32 = ((1 / 2 : ℝ) : EReal) := by
  simp [Ideal.ofBits, Ideal.ieee, -EReal.coe_mul]; norm_num

/-- The width of a row, 128. -/
theorem bits_width : Ideal.ofBits .f32 0x43000000#32 = ((128 : ℝ) : EReal) := by
  simp [Ideal.ofBits, Ideal.ieee, -EReal.coe_mul]; norm_num

/-- Plus infinity. -/
theorem bits_inf : Ideal.ofBits .f32 0x7F800000#32 = ⊤ := by
  simp [Ideal.ofBits, Ideal.ieee]

/-- The transform's scale: the reciprocal of the root of the width. -/
def scale : ℝ := 1 / Real.sqrt 128

/-- It is positive. -/
theorem scale_pos : 0 < scale := by unfold scale; positivity

/-- The programs compute it as one divided by the root of the width. -/
theorem scale_eq : Ideal.div (Ideal.ofBits .f32 0x3F800000#32) (Ideal.sqrt (Ideal.ofBits .f32 0x43000000#32)) = (scale : EReal) := by
  have h : Real.sqrt 128 ≠ 0 := by positivity
  rw [bits_one, bits_width, Ideal.sqrt_coe, if_neg (by norm_num), Ideal.div_coe h, ← EReal.coe_mul, one_mul, scale]

end Cert.Proof

end
-- ==== Proof.Butterfly.lean ====
/- One stage of the fast Walsh–Hadamard transform, read on the array's row-major order. -/
module

public import Idealize.ShloMosaic.PureOps.Ideal
public import Idealize.ShloMosaic.Lib.Pipeline.Value
public import Idealize.ShloMosaic.Lib.Pointwise.Index

@[expose] public section

noncomputable section

namespace Cert.Proof

open Idealize.ShloMosaic

/-- `X` lists, in row-major order, the sequence `f`. -/
def Flat {α : Type} {s : Shape} (X : s.Idx → α) (f : ℕ → α) : Prop := ∀ i, X i = f (s.rowMajor i).val

/-- A reshape keeps the row-major sequence. -/
theorem Flat.cast {α : Type} {s t : Shape} {X : s.Idx → α} {f : ℕ → α} (hX : Flat X f) (h : s.ShapeCasts t) :
    Flat (shapeCast t X h) f := fun i => by
  unfold shapeCast
  rw [hX, Shape.rowMajor_reshapeEquiv]

/-- One butterfly of half-width `h` on a sequence: in each run of `2 * h` entries the first half becomes the
    sums, the second half the differences, of the entries at distance `h`. -/
def bfly {α : Type} [Add α] [Sub α] (h : ℕ) (f : ℕ → α) (k : ℕ) : α :=
  if k / h % 2 = 0 then f k + f (k + h) else f (k - h) - f k

section Stage
variable {B N h : ℕ}

/-- A broadcast that only adds an axis of size one reads its operand at the same coordinates. -/
theorem broadcastInDim_same {α : Type} {s t : Shape} (dims : Fin s.rank → Fin t.rank) (hb : s.BroadcastsInDim t dims)
    (x : s.Idx → α) (j : t.Idx) (i : s.Idx) (hi : ∀ a, (i a).val = (j (dims a)).val) :
    broadcastInDim t dims hb x j = x i := by
  unfold broadcastInDim
  congr 1
  funext a
  apply Fin.ext
  rw [hi a]
  split
  · next h1 =>
      have := (i a).isLt
      rw [hi a] at this
      simp only
      omega
  · rfl

/-- Half `p` of an array of pairs of runs, read at an entry: run `p` of the pair. -/
theorem half_apply {α : Type} {X : (⟨4, ![B, N, 2, h]⟩ : Shape).Idx → α} {f : ℕ → α} (hX : Flat X f) (p : ℕ) (hp : p < 2)
    (hs : (⟨4, ![B, N, 2, h]⟩ : Shape).Slices ![0, 0, p, 0] ⟨4, ![B, N, 1, h]⟩)
    (hc : (⟨4, ![B, N, 1, h]⟩ : Shape).ShapeCasts ⟨3, ![B, N, h]⟩) (b : Fin B) (n : Fin N) (r : Fin h) :
    shapeCast ⟨3, ![B, N, h]⟩ (extractStridedSlice ⟨4, ![B, N, 1, h]⟩ ![0, 0, p, 0] X hs) hc (ix3 b n r)
      = f (((b.val * N + n.val) * 2 + p) * h + r.val) := by
  unfold shapeCast
  rw [Shape.reshapeEquiv_eq_of_rowMajor hc (x := ix3 b n r) (y := ix4 b n (0 : Fin 1) r) (by
    rw [Shape.rowMajor_val_four, Shape.rowMajor_val_three]
    simp)]
  unfold extractStridedSlice
  rw [hX, Shape.rowMajor_val_four]
  simp

/-- A stage's two halves, their sums and differences stacked, list the butterfly of the sequence. -/
theorem stage_flat {f : ℕ → EReal} (a b : FVec Ideal ⟨3, ![B, N, h]⟩ .f32)
    (ha : ∀ (i : Fin B) (n : Fin N) (r : Fin h), a (ix3 i n r) = f (((i.val * N + n.val) * 2 + 0) * h + r.val))
    (hb : ∀ (i : Fin B) (n : Fin N) (r : Fin h), b (ix3 i n r) = f (((i.val * N + n.val) * 2 + 1) * h + r.val))
    (hd hd' : (⟨3, ![B, N, h]⟩ : Shape).BroadcastsInDim ⟨4, ![B, N, 1, h]⟩ ![0, 1, 3])
    (hc : Shape.Concatenates [⟨4, ![B, N, 1, h]⟩, ⟨4, ![B, N, 1, h]⟩] ⟨4, ![B, N, 2, h]⟩ 2) :
    Flat (concatenate ⟨4, ![B, N, 2, h]⟩ 2
      [⟨⟨4, ![B, N, 1, h]⟩, broadcastInDim ⟨4, ![B, N, 1, h]⟩ ![0, 1, 3] hd (addf a b)⟩,
       ⟨⟨4, ![B, N, 1, h]⟩, broadcastInDim ⟨4, ![B, N, 1, h]⟩ ![0, 1, 3] hd' (subf a b)⟩] hc) (bfly h f) := by
  intro j
  obtain ⟨i, n, p, r, rfl⟩ : ∃ (i : Fin B) (n : Fin N) (p : Fin 2) (r : Fin h), j = ix4 i n p r :=
    ⟨j 0, j 1, j 2, j 3, eq_ix4 j⟩
  have hr : r.val < h := r.isLt
  have hk : ((⟨4, ![B, N, 2, h]⟩ : Shape).rowMajor (ix4 i n p r)).val = ((i.val * N + n.val) * 2 + p.val) * h + r.val := by
    rw [Shape.rowMajor_val_four]; simp
  rw [hk]
  have hq : (((i.val * N + n.val) * 2 + p.val) * h + r.val) / h % 2 = p.val := by
    rw [Nat.add_comm, Nat.add_mul_div_right _ _ (by omega), Nat.div_eq_of_lt hr]
    have := p.isLt
    omega
  unfold bfly
  rw [hq]
  by_cases h0 : p.val = 0
  · rw [if_pos h0, concatenate_pair_apply_left 2 _ _ hc (ix4 i n p r) rfl (ix4 i n (0 : Fin 1) r) (by
      intro c
      fin_cases c <;> first | rfl | exact h0.symm)]
    rw [broadcastInDim_same _ _ _ _ (ix3 i n r) (by intro c; fin_cases c <;> rfl)]
    show a (ix3 i n r) + b (ix3 i n r) = _
    rw [ha, hb, h0]
    congr 2
    ring
  · have h1 : p.val = 1 := by have := p.isLt; omega
    rw [if_neg h0, concatenate_pair_apply_right 2 _ _ hc (ix4 i n p r) rfl rfl (ix4 i n (0 : Fin 1) r) (by
      intro c hc2
      fin_cases c <;> first | rfl | exact absurd rfl hc2) (by
      show 0 + 1 = p.val
      omega)]
    rw [broadcastInDim_same _ _ _ _ (ix3 i n r) (by intro c; fin_cases c <;> rfl)]
    show a (ix3 i n r) - b (ix3 i n r) = _
    rw [ha, hb, h1]
    congr 2
    have : ((i.val * N + n.val) * 2 + 1) * h = ((i.val * N + n.val) * 2 + 0) * h + h := by ring
    omega

end Stage

end Cert.Proof

end
-- ==== Proof.Sign.lean ====
/- The signs of the Walsh–Hadamard matrix, and the kernel's literal table of them. -/
module

public import proofs.«01_k».proof.KernelIdeal

@[expose] public section

namespace Cert.Proof

/-- Entry `(i, j)` of the `2 ^ s` by `2 ^ s` Hadamard matrix is minus one exactly when an odd number of the low `s`
    bits are set in both `i` and `j`: this is that parity. -/
def odd : ℕ → ℕ → ℕ → Bool
  | 0, _, _ => false
  | s + 1, i, j => xor (i.testBit s && j.testBit s) (odd s i j)

/-- One row of the table: its 128 words are the float `1.0`, or `-1.0` where the parity is odd. -/
noncomputable def rowOk (i : ℕ) : Bool :=
  (List.range 128).all fun j => Cert.KernelIdeal.lit0t (i * 128 + j) == bif odd 7 i j then 0xBF800000#32 else 0x3F800000#32

/-- Every row of the table is as the parity says. -/
theorem rows_ok : (List.range 128).all rowOk = true := by decide +kernel

/-- So the literal table at row `i` and column `j` is the sign that the parity of `i` and `j` gives. -/
theorem lit0_eq (i j : ℕ) (hi : i < 128) (hj : j < 128) (h : i * 128 + j < 16384) :
    Cert.KernelIdeal.lit0 ⟨i * 128 + j, h⟩ = bif odd 7 i j then 0xBF800000#32 else 0x3F800000#32 := by
  have h1 := List.all_eq_true.mp rows_ok i (List.mem_range.mpr hi)
  have h2 := List.all_eq_true.mp h1 j (List.mem_range.mpr hj)
  exact eq_of_beq h2

end Cert.Proof

end
-- ==== Proof.Walsh.lean ====
/- The butterfly stages composed are multiplication by the Walsh–Hadamard matrix. -/
module

public import proofs.«01_k».proof.Proof.Butterfly
public import proofs.«01_k».proof.Proof.Sign
public import Mathlib.Data.EReal.Operations
public import Mathlib.Algebra.BigOperators.Intervals
public import Mathlib.Tactic.Ring

@[expose] public section

noncomputable section

namespace Cert.Proof

/-- The entry of the Hadamard matrix of a given parity: minus one where it is odd, one elsewhere. -/
def sgn (b : Bool) : ℝ := bif b then -1 else 1

/-- The parity looks at the low `s` bits only. -/
theorem odd_congr (s : ℕ) {i i' j j' : ℕ} (hi : ∀ t < s, i.testBit t = i'.testBit t)
    (hj : ∀ t < s, j.testBit t = j'.testBit t) : odd s i j = odd s i' j' := by
  induction s with
  | zero => rfl
  | succ s ih =>
      rw [odd, odd, hi s (by omega), hj s (by omega), ih (fun t ht => hi t (by omega)) fun t ht => hj t (by omega)]

/-- The parity one bit up: with the new bits `p` and `q` above `i` and `j`, it flips exactly when both are set. -/
theorem odd_succ (s p q i j : ℕ) (hp : p < 2) (hq : q < 2) (hi : i < 2 ^ s) (hj : j < 2 ^ s) :
    odd (s + 1) (2 ^ s * p + i) (2 ^ s * q + j) = xor (decide (p = 1) && decide (q = 1)) (odd s i j) := by
  have low : ∀ a b : ℕ, b < 2 ^ s → ∀ t < s, (2 ^ s * a + b).testBit t = b.testBit t := fun a b hb t ht => by
    rw [Nat.testBit_two_pow_mul_add _ hb, if_pos ht]
  have top : ∀ a b : ℕ, a < 2 → b < 2 ^ s → (2 ^ s * a + b).testBit s = decide (a = 1) := fun a b ha hb => by
    rw [Nat.testBit_two_pow_mul_add _ hb, if_neg (by omega), Nat.sub_self, Nat.testBit_zero]
    congr 1
    apply propext
    omega
  rw [odd, top p i hp hi, top q j hq hj, odd_congr s (low p i hi) (low q j hj)]

/-- The first `s` stages, half-widths `1, 2, …, 2 ^ (s - 1)`. -/
def stages {α : Type} [Add α] [Sub α] : ℕ → (ℕ → α) → ℕ → α
  | 0, f => f
  | s + 1, f => bfly (2 ^ s) (stages s f)

/-- `s` stages multiply each run of `2 ^ s` entries by the Hadamard matrix of that size. -/
theorem stages_eq (s : ℕ) (f : ℕ → ℝ) (n j : ℕ) (hj : j < 2 ^ s) :
    stages s f (n * 2 ^ s + j) = ∑ i ∈ Finset.range (2 ^ s), f (n * 2 ^ s + i) * sgn (odd s i j) := by
  induction s generalizing n j with
  | zero =>
      have : j = 0 := by simpa using hj
      subst this
      simp [stages, odd, sgn]
  | succ s ih =>
      obtain ⟨q, j', hq, hj', rfl⟩ : ∃ q j', q < 2 ∧ j' < 2 ^ s ∧ j = 2 ^ s * q + j' :=
        ⟨j / 2 ^ s, j % 2 ^ s, by rw [Nat.div_lt_iff_lt_mul (by positivity)]; rw [pow_succ] at hj; omega,
          Nat.mod_lt _ (by positivity), (Nat.div_add_mod _ _).symm⟩
      have hw : 2 ^ (s + 1) = 2 ^ s + 2 ^ s := by rw [pow_succ]; ring
      have hn : n * 2 ^ (s + 1) = (2 * n) * 2 ^ s := by rw [pow_succ]; ring
      have hn1 : (2 * n) * 2 ^ s + 2 ^ s = (2 * n + 1) * 2 ^ s := by ring
      have e0 : ∀ i ∈ Finset.range (2 ^ s), f (n * 2 ^ (s + 1) + i) * sgn (odd (s + 1) i (2 ^ s * q + j'))
          = f ((2 * n) * 2 ^ s + i) * sgn (odd s i j') := fun i hi => by
        have h := odd_succ s 0 q i j' (by omega) hq (Finset.mem_range.mp hi) hj'
        rw [Nat.mul_zero, Nat.zero_add] at h
        rw [h, hn]
        simp
      have e1 : ∀ i ∈ Finset.range (2 ^ s), f (n * 2 ^ (s + 1) + (2 ^ s + i)) * sgn (odd (s + 1) (2 ^ s + i) (2 ^ s * q + j'))
          = f ((2 * n + 1) * 2 ^ s + i) * sgn (xor (decide (q = 1)) (odd s i j')) := fun i hi => by
        have h := odd_succ s 1 q i j' (by omega) hq (Finset.mem_range.mp hi) hj'
        rw [Nat.mul_one] at h
        rw [h, hn, ← Nat.add_assoc, hn1]
        simp
      rw [hw, Finset.sum_range_add, ← hw, Finset.sum_congr rfl e0, Finset.sum_congr rfl e1, ← ih (2 * n) j' hj', stages, bfly, hn]
      have hd : (2 * n * 2 ^ s + (2 ^ s * q + j')) / 2 ^ s % 2 = q := by
        rw [show 2 * n * 2 ^ s + (2 ^ s * q + j') = j' + 2 ^ s * (2 * n + q) by ring, Nat.add_mul_div_left _ _ (by positivity),
          Nat.div_eq_of_lt hj']
        omega
      rw [hd]
      by_cases h0 : q = 0
      · subst h0
        rw [if_pos rfl, Nat.mul_zero, Nat.zero_add, show 2 * n * 2 ^ s + j' + 2 ^ s = (2 * n + 1) * 2 ^ s + j' by ring,
          ih (2 * n + 1) j' hj']
        simp
      · have h1 : q = 1 := by omega
        subst h1
        rw [if_neg h0, Nat.mul_one, show 2 * n * 2 ^ s + (2 ^ s + j') - 2 ^ s = 2 * n * 2 ^ s + j' by omega,
          show 2 * n * 2 ^ s + (2 ^ s + j') = (2 * n + 1) * 2 ^ s + j' by ring, ih (2 * n + 1) j' hj', sub_eq_add_neg,
          ← Finset.sum_neg_distrib]
        congr 1
        refine Finset.sum_congr rfl fun i _ => ?_
        cases odd s i j' <;> simp [sgn]

/-- The stages of a real sequence are the same computed over the extended reals. -/
theorem stages_coe (s : ℕ) (f : ℕ → ℝ) :
    stages s (fun k => ((f k : ℝ) : EReal)) = fun k => ((stages s f k : ℝ) : EReal) := by
  induction s with
  | zero => rfl
  | succ s ih =>
      funext k
      rw [stages, ih, stages, bfly, bfly]
      split
      · rw [EReal.coe_add]
      · rw [EReal.coe_sub]

end Cert.Proof

end
-- ==== Proof.Cells.lean ====
/- Quantizing a real number to the nearest of sixteen increasing centroids, two ways. -/
module

public import Idealize.ShloMosaic.PureOps.Ideal
public import Mathlib.Data.EReal.Operations
public import Mathlib.Tactic.Linarith

@[expose] public section

noncomputable section

namespace Cert.Proof

/-- `y` lies in cell `j` of the first `K` centroids `c`: above every midpoint before `j`, and not above a midpoint
    from `j` on. -/
def IsCell (K : ℕ) (c : ℕ → ℝ) (y : ℝ) (j : ℕ) : Prop :=
  j < K ∧ (∀ i < j, (c i + c (i + 1)) / 2 < y) ∧ ∀ i, j ≤ i → i + 1 < K → y ≤ (c i + c (i + 1)) / 2

/-- A number lies in one cell only. -/
theorem IsCell.unique {K : ℕ} {c : ℕ → ℝ} {y : ℝ} {j j' : ℕ} (h : IsCell K c y j) (h' : IsCell K c y j') : j = j' := by
  rcases Nat.lt_trichotomy j j' with hlt | heq | hgt
  · exact absurd (h'.2.1 j hlt) (not_lt.mpr (h.2.2 j le_rfl (by have := h'.1; omega)))
  · exact heq
  · exact absurd (h.2.1 j' hgt) (not_lt.mpr (h'.2.2 j' le_rfl (by have := h.1; omega)))

/-- The first `K` centroids strictly increase. -/
def Increasing (K : ℕ) (c : ℕ → ℝ) : Prop := ∀ i, i + 1 < K → c i < c (i + 1)

/-- So a later one is larger. -/
theorem Increasing.lt {K : ℕ} {c : ℕ → ℝ} (hc : Increasing K c) {i j : ℕ} (hij : i < j) (hj : j < K) : c i < c j := by
  induction j with
  | zero => omega
  | succ j ih =>
      rcases Nat.lt_or_ge i j with h | h
      · exact (ih h (by omega)).trans (hc j hj)
      · obtain rfl : i = j := by omega
        exact hc i hj

/-- and none later is smaller. -/
theorem Increasing.le {K : ℕ} {c : ℕ → ℝ} (hc : Increasing K c) {i j : ℕ} (hij : i ≤ j) (hj : j < K) : c i ≤ c j := by
  rcases Nat.eq_or_lt_of_le hij with rfl | h
  · exact le_rfl
  · exact (hc.lt h hj).le

/-! ## The search through all of them -/

/-- The least distance found in the first `k` centroids, from plus infinity. -/
def best (c : ℕ → EReal) (y : EReal) : ℕ → EReal
  | 0 => ⊤
  | k + 1 => if max (y - c k) (-(y - c k)) < best c y k then max (y - c k) (-(y - c k)) else best c y k

/-- The first place where it is found. -/
def place (c : ℕ → EReal) (y : EReal) : ℕ → ℕ
  | 0 => 0
  | k + 1 => if max (y - c k) (-(y - c k)) < best c y k then k else place c y k

/-- One more centroid: its distance is compared with the least so far. -/
theorem best_succ (c : ℕ → EReal) (y : EReal) (k : ℕ) :
    best c y (k + 1) = if max (y - c k) (-(y - c k)) < best c y k then max (y - c k) (-(y - c k)) else best c y k := rfl

/-- … and the place follows. -/
theorem place_succ (c : ℕ → EReal) (y : EReal) (k : ℕ) :
    place c y (k + 1) = if max (y - c k) (-(y - c k)) < best c y k then k else place c y k := rfl

/-- The search reads no centroid but the first `k`. -/
theorem place_congr {c c' : ℕ → EReal} (y : EReal) (k : ℕ) (h : ∀ i < k, c i = c' i) :
    best c y k = best c' y k ∧ place c y k = place c' y k := by
  induction k with
  | zero => exact ⟨rfl, rfl⟩
  | succ k ih =>
      have e := ih fun i hi => h i (by omega)
      rw [best_succ, place_succ, best_succ, place_succ, e.1, e.2, h k (by omega)]
      exact ⟨rfl, rfl⟩

/-- The distance between reals, as the extended reals compute it. -/
theorem dist_coe (y d : ℝ) : max ((y : EReal) - (d : EReal)) (-((y : EReal) - (d : EReal))) = ((|y - d| : ℝ) : EReal) := by
  rw [← EReal.coe_sub, ← EReal.coe_neg, abs]
  exact (EReal.coe_strictMono.monotone.map_max).symm

/-- After `k + 1` centroids the search stands at the cell of the number among them, at its distance. -/
theorem search (c : ℕ → ℝ) (y : ℝ) (k : ℕ) (hc : Increasing (k + 1) c) :
    IsCell (k + 1) c y (place (fun i => (c i : EReal)) y (k + 1))
      ∧ best (fun i => (c i : EReal)) y (k + 1) = ((|y - c (place (fun i => (c i : EReal)) y (k + 1))| : ℝ) : EReal) := by
  induction k with
  | zero =>
      have e : max ((y : EReal) - (c 0 : EReal)) (-((y : EReal) - (c 0 : EReal))) < ⊤ := by
        rw [dist_coe]; exact EReal.coe_lt_top _
      rw [place_succ, best_succ, best, if_pos e, if_pos e, dist_coe]
      refine ⟨⟨by omega, fun i hi => by omega, fun i _ hi => by omega⟩, rfl⟩
  | succ k ih =>
      obtain ⟨hcell, hbest⟩ := ih fun i hi => hc i (by omega)
      rw [place_succ _ _ (k + 1), best_succ _ _ (k + 1)]
      generalize place (fun i => (c i : EReal)) y (k + 1) = j at hcell hbest ⊢
      rw [hbest, dist_coe]
      have hjk : c j < c (k + 1) := hc.lt hcell.1 (by omega)
      by_cases hy : (c k + c (k + 1)) / 2 < y
      · have hj : j = k := by
          by_contra hne
          have hlt : j < k := by have := hcell.1; omega
          have h1 := hcell.2.2 j le_rfl (by omega)
          have h2 : c j ≤ c k := hc.le hlt.le (by omega)
          have h3 : c (j + 1) ≤ c k := hc.le hlt (by omega)
          have h4 := hc k (by omega)
          linarith
        subst hj
        have hlt : |y - c (j + 1)| < |y - c j| := by
          have h4 := hc j (by omega)
          rw [abs_of_pos (show 0 < y - c j by linarith), abs_lt]
          constructor <;> linarith
        rw [if_pos (by exact_mod_cast hlt), if_pos (by exact_mod_cast hlt)]
        refine ⟨⟨by omega, fun i hi => ?_, fun i hi hi' => by omega⟩, rfl⟩
        rcases Nat.eq_or_lt_of_le (Nat.le_of_lt_succ hi) with rfl | h
        · exact hy
        · exact hcell.2.1 i h
      · have hle : y ≤ (c j + c (k + 1)) / 2 := by
          rcases Nat.eq_or_lt_of_le (Nat.le_of_lt_succ hcell.1) with rfl | h
          · exact not_lt.mp hy
          · have h1 := hcell.2.2 j le_rfl (by omega)
            have h2 : c (j + 1) ≤ c (k + 1) := hc.le (by omega) (by omega)
            linarith
        have hnot : ¬ |y - c (k + 1)| < |y - c j| := by
          rw [abs_of_neg (show y - c (k + 1) < 0 by linarith), not_lt, abs_le]
          constructor <;> linarith
        rw [if_neg (by exact_mod_cast hnot), if_neg (by exact_mod_cast hnot)]
        refine ⟨⟨by have := hcell.1; omega, hcell.2.1, fun i hi hi' => ?_⟩, rfl⟩
        rcases Nat.eq_or_lt_of_le (Nat.le_of_lt_succ (Nat.lt_of_succ_lt_succ hi')) with rfl | h
        · exact not_lt.mp hy
        · exact hcell.2.2 i hi (by omega)

/-! ## The search by halving -/

/-- A number above the midpoint before `j` and not above the one after it lies in cell `j`. -/
theorem isCell_of_between {K : ℕ} {c : ℕ → ℝ} {y : ℝ} (hc : Increasing K c) (j : ℕ) (hj : j < K)
    (hl : ∀ i, i + 1 = j → (c i + c (i + 1)) / 2 < y) (hu : j + 1 < K → y ≤ (c j + c (j + 1)) / 2) : IsCell K c y j := by
  refine ⟨hj, fun i hi => ?_, fun i hi hi' => ?_⟩
  · obtain ⟨j', rfl⟩ : ∃ j', j = j' + 1 := ⟨j - 1, by omega⟩
    have h := hl j' rfl
    have h1 : c i ≤ c j' := hc.le (by omega) (by omega)
    have h2 : c (i + 1) ≤ c (j' + 1) := hc.le (by omega) (by omega)
    linarith
  · have h := hu (by omega)
    have h1 : c j ≤ c i := hc.le hi (by omega)
    have h2 : c (j + 1) ≤ c (i + 1) := hc.le (by omega) (by omega)
    linarith

end Cert.Proof

end
-- ==== Proof.Spec.lean ====
/- What both programs compute, over the reals: the rotated rows, the cell of each entry, and the rows rotated back. -/
module

public import proofs.«01_k».proof.Proof.Consts
public import proofs.«01_k».proof.Proof.Walsh
public import proofs.«01_k».proof.Proof.Cells

@[expose] public section

noncomputable section

namespace Cert.Proof

open Idealize.ShloMosaic

/-- The three arguments as real sequences, the rows of the first listed one after the other. -/
structure Args where
  /-- The rows. -/
  X : ℕ → ℝ
  /-- The signs of the columns. -/
  S : ℕ → ℝ
  /-- The centroids. -/
  C : ℕ → ℝ

namespace Args
variable (a : Args)

/-- Row `n` with its signs, multiplied by the Hadamard matrix: entry `j`. -/
def rot (n j : ℕ) : ℝ := ∑ i ∈ Finset.range 128, a.X (n * 128 + i) * a.S i * sgn (odd 7 i j)

/-- The cell of that entry, scaled, among the centroids. -/
def cell (n j : ℕ) : ℕ := place (fun k => (a.C k : EReal)) ((a.rot n j * scale : ℝ) : EReal) 16

/-- Row `n` of the cells' centroids, multiplied by the Hadamard matrix, scaled and signed: entry `l`. -/
def back (n l : ℕ) : ℝ := (∑ j ∈ Finset.range 128, a.C (a.cell n j) * sgn (odd 7 j l)) * scale * a.S l

/-- For increasing centroids it is the one cell that the entry lies in. -/
theorem isCell (hC : Increasing 16 a.C) (n j : ℕ) : IsCell 16 a.C (a.rot n j * scale) (a.cell n j) :=
  (search a.C _ 15 hC).1

/-- The arguments' arrays hold the sequences. -/
structure Of (x : FVec Idealize.ShloMosaic.Ideal ⟨2, ![65536, 128]⟩ .f32) (s : FVec Idealize.ShloMosaic.Ideal ⟨1, ![128]⟩ .f32) (c : FVec Idealize.ShloMosaic.Ideal ⟨1, ![16]⟩ .f32) : Prop where
  rows : ∀ i, x i = (a.X ((i 0).val * 128 + (i 1).val) : EReal)
  signs : ∀ i, s i = (a.S (i 0).val : EReal)
  cents : ∀ i, c i = (a.C (i 0).val : EReal)
  sorted : Increasing 16 a.C

end Args

end Cert.Proof

end
-- ==== Proof.Pre.lean ====
/- What the precondition says: the arrays hold real numbers, and the centroids are in increasing order. -/
module

public import proofs.«01_k».proof.Proof.Gen.Pre_finite_and_increasing
public import proofs.«01_k».proof.Proof.Spec
public import proofs.«01_k».proof.Proof.Consts
public import Idealize.ShloMosaic.Lib.ReduceAll

@[expose] public section

noncomputable section

namespace Cert.Proof

open Idealize.ShloMosaic Cert.Pre_finite_and_increasing Cert.Pre_finite_and_increasing.Gen

/-- Two bits whose conjunction is set are set. -/
theorem both_set {b d : BitVec 1} (h : b &&& d = 1#1) : b = 1#1 ∧ d = 1#1 := by
  revert b d
  decide

/-- There is one index of rank zero. -/
instance : Subsingleton S_.Idx := ⟨fun _ _ => funext fun d => d.elim0⟩

/-- A comparison that is set says that its left side is less. -/
theorem less_of_set {x y : EReal} (h : Ideal.cmp .olt x y = 1#1) : x < y := by
  by_contra hn
  have e : Ideal.cmp .olt x y = 0#1 := by simp [Ideal.cmp, hn]
  rw [e] at h
  exact absurd h (by decide)

/-- A number whose absolute value is less than infinity is real. -/
theorem real_of_abs_lt {x : EReal} (h : max x (-x) < ⊤) : x = ((x.toReal : ℝ) : EReal) := by
  refine (EReal.coe_toReal ?_ ?_).symm
  · rintro rfl
    simp at h
  · rintro rfl
    simp at h

/-- The arguments under the precondition, as real numbers. -/
theorem pre_args {x : FVec Ideal S65536x128 .f32} {s : FVec Ideal S128 .f32} {c : FVec Ideal S16 .f32}
    (h : fn (F := Ideal) x s c = fun _ => 1#1) : ∃ a : Args, a.Of x s c := by
  have h0 := congrFun h ix0
  obtain ⟨h1, hs⟩ := both_set h0
  obtain ⟨h2, hc⟩ := both_set h1
  obtain ⟨hx, hsg⟩ := both_set h2
  have rx : ∀ i, x i = (((x i).toReal : ℝ) : EReal) := fun i =>
    real_of_abs_lt (bits_inf ▸ less_of_set (Host.reduce_andi_all _ _ _ _ _ hx i))
  have rs : ∀ i, s i = (((s i).toReal : ℝ) : EReal) := fun i =>
    real_of_abs_lt (bits_inf ▸ less_of_set (Host.reduce_andi_all _ _ _ _ _ hsg i))
  have rc : ∀ i, c i = (((c i).toReal : ℝ) : EReal) := fun i =>
    real_of_abs_lt (bits_inf ▸ less_of_set (Host.reduce_andi_all _ _ _ _ _ hc i))
  have inc : ∀ k (hk : k < 15), c (ix1 ⟨k, by omega⟩) < c (ix1 ⟨k + 1, by omega⟩) := fun k hk => by
    have l := less_of_set (Host.reduce_andi_all _ _ _ _ _ hs (ix1 ⟨k, hk⟩))
    refine lt_of_eq_of_lt (congrArg c ?_) (lt_of_lt_of_eq l (congrArg c ?_))
    · funext d
      obtain rfl : d = 0 := Subsingleton.elim _ _
      apply Fin.ext
      show k = 0 + k
      omega
    · funext d
      obtain rfl : d = 0 := Subsingleton.elim _ _
      apply Fin.ext
      show 1 + k = k + 1
      omega
  refine ⟨⟨fun k => if h : k / 128 < 65536 then (x (ix2 ⟨k / 128, h⟩ ⟨k % 128, Nat.mod_lt _ (by decide)⟩)).toReal else 0,
    fun k => if h : k < 128 then (s (ix1 ⟨k, h⟩)).toReal else 0, fun k => if h : k < 16 then (c (ix1 ⟨k, h⟩)).toReal else 0⟩, ?_, ?_, ?_, ?_⟩
  · intro i
    have i0 : (i 0).val < 65536 := (i 0).isLt
    have i1 : (i 1).val < 128 := (i 1).isLt
    have q : ((i 0).val * 128 + (i 1).val) / 128 = (i 0).val := by omega
    have r : ((i 0).val * 128 + (i 1).val) % 128 = (i 1).val := by omega
    refine (rx i).trans (congrArg _ ?_)
    dsimp only
    rw [dif_pos (by omega)]
    refine congrArg (fun j => (x j).toReal) ?_
    funext d
    refine Fin.cases (Fin.ext q.symm) (fun d => ?_) d
    exact Fin.cases (Fin.ext r.symm) (fun d => d.elim0) d
  · intro i
    refine (rs i).trans (congrArg _ ?_)
    dsimp only
    rw [dif_pos (show (i 0).val < 128 from (i 0).isLt)]
    refine congrArg (fun j => (s j).toReal) ?_
    funext d
    obtain rfl : d = 0 := Subsingleton.elim _ _
    rfl
  · intro i
    refine (rc i).trans (congrArg _ ?_)
    dsimp only
    rw [dif_pos (show (i 0).val < 16 from (i 0).isLt)]
    refine congrArg (fun j => (c j).toReal) ?_
    funext d
    obtain rfl : d = 0 := Subsingleton.elim _ _
    rfl
  · intro k hk
    dsimp only
    rw [dif_pos (by omega), dif_pos hk]
    have l := inc k (by omega)
    rw [rc, rc (ix1 ⟨k + 1, _⟩)] at l
    exact EReal.coe_lt_coe_iff.1 l

end Cert.Proof

end
-- ==== Proof.Halving.lean ====
/- The kernel's search: four comparisons, each with the midpoint that halves what is left. -/
module

public import proofs.«01_k».proof.Proof.Spec
public import Idealize.ShloMosaic.Lib.Pointwise

@[expose] public section

noncomputable section

namespace Cert.Proof

open Idealize.ShloMosaic

/-- The even number that three bits begin. -/
def lead (b3 b2 b1 : Bool) : ℕ := 8 * b3.toNat + 4 * b2.toNat + 2 * b1.toNat

/-- Four bits as the comparisons with the thresholds `M` find them. -/
structure Bits (M : ℕ → EReal) (z : EReal) (b3 b2 b1 b0 : Bool) : Prop where
  h3 : b3 = decide (M 7 < z)
  h2 : b2 = decide (M (8 * b3.toNat + 3) < z)
  h1 : b1 = decide (M (8 * b3.toNat + 4 * b2.toNat + 1) < z)
  h0 : b0 = decide (M (lead b3 b2 b1) < z)

/-- A threshold: a midpoint of neighbouring centroids, taken to the unscaled side. -/
def mids (C : ℕ → ℝ) (k : ℕ) : ℝ := (C k + C (k + 1)) / 2 / scale

/-- The bits read as a number are the cell of the scaled entry. -/
theorem Bits.cell {C : ℕ → ℝ} (hC : Increasing 16 C) {M : ℕ → EReal} (hM : ∀ k < 15, M k = (mids C k : EReal)) {r : ℝ}
    {b3 b2 b1 b0 : Bool} (h : Bits M (r : EReal) b3 b2 b1 b0) : IsCell 16 C (r * scale) (lead b3 b2 b1 + b0.toNat) := by
  have key : ∀ k < 15, decide (M k < (r : EReal)) = decide ((C k + C (k + 1)) / 2 < r * scale) := fun k hk => by
    rw [decide_eq_decide, hM k hk, EReal.coe_lt_coe_iff, mids, div_lt_iff₀ scale_pos]
  obtain ⟨h3, h2, h1, h0⟩ := h
  rw [key _ (by omega)] at h3
  rw [key _ (by cases b3 <;> simp)] at h2
  rw [key _ (by cases b3 <;> cases b2 <;> simp)] at h1
  rw [key _ (by cases b3 <;> cases b2 <;> cases b1 <;> simp [lead])] at h0
  unfold lead at h0 ⊢
  cases b3 <;> cases b2 <;> cases b1 <;> cases b0 <;> simp at h3 h2 h1 h0 ⊢ <;>
    refine isCell_of_between hC _ (by omega) (fun i hi => ?_) (fun hi => ?_) <;>
    first
    | omega
    | assumption
    | (obtain rfl : i = _ := Nat.succ.inj hi; assumption)

/-- What the kernel takes back: the even centroid, or twice the midpoint less it. -/
theorem Bits.value (C : ℕ → ℝ) (e : ℕ) (b : Bool) :
    (if b then ((2 * (Real.sqrt 128)⁻¹ : ℝ) : EReal) * (mids C e : EReal) - (C e : EReal) else (C e : EReal))
      = (C (e + b.toNat) : EReal) := by
  cases b
  · simp
  · rw [if_pos rfl, ← EReal.coe_mul, ← EReal.coe_sub]
    congr 1
    have hs : Real.sqrt 128 ≠ 0 := by positivity
    show _ = C (e + 1)
    unfold mids scale
    field_simp
    ring

end Cert.Proof

end
-- ==== Proof.KernelBlock.lean ====
/- What the kernel's body computes of its blocks, entry by entry. -/
module

public import proofs.«01_k».proof.Proof.Gen.KernelIdeal.Skeleton
public import proofs.«01_k».proof.Proof.Halving
public import Idealize.ShloMosaic.PureOps.IdealRules
public import Idealize.ShloMosaic.Lib.Pointwise

@[expose] public section

set_option maxRecDepth 16384

noncomputable section

namespace Cert.Proof

open Idealize.ShloMosaic Cert.KernelIdeal Cert.KernelIdeal.Gen

/-- A sum of reals is the sum of the reals taken as extended reals. -/
theorem coe_sum (n : ℕ) (f : ℕ → ℝ) : ∑ k : Fin n, ((f k.val : ℝ) : EReal) = ((∑ k ∈ Finset.range n, f k : ℝ) : EReal) := by
  induction n with
  | zero => simp
  | succ n ih => rw [Fin.sum_univ_castSucc, Finset.sum_range_succ, EReal.coe_add, ← ih]; rfl

/-- The kernel's product of a block and a matrix. -/
def mm (l : FVec Ideal S8192x128 .bf16) (r : FVec Ideal S128x128 .bf16) : FVec Ideal S8192x128 .f32 :=
  matmul dot_S8192x128_S128x128_S8192x128_1_0_0_1_n_n none l r (constant S8192x128 .f32 0x00000000#32)

/-- A row times a column, of real entries. -/
theorem mm_real (l : FVec Ideal S8192x128 .bf16) (r : FVec Ideal S128x128 .bf16) (p : Fin 8192) (q : Fin 128) (f g : ℕ → ℝ)
    (hl : ∀ k : Fin 128, l (ix2 p k) = (f k.val : EReal)) (hr : ∀ k : Fin 128, r (ix2 k q) = (g k.val : EReal)) :
    mm l r (ix2 p q) = ((∑ k ∈ Finset.range 128, f k * g k : ℝ) : EReal) := by
  have e : mm l r (ix2 p q) = Ideal.ofBits .f32 0x00000000#32 + ∑ k : Fin 128, l (ix2 p k) * r (ix2 k q) := by
    pointwise [mm]
  rw [e, bits_zero, EReal.coe_zero, zero_add, ← coe_sum]
  refine Finset.sum_congr rfl fun k _ => ?_
  rw [hl, hr, EReal.coe_mul]

/-- A reshape to the same shape is the identity. -/
theorem shapeCast_self' (r : FVec Ideal S128x128 .bf16) : shapeCast S128x128 r shapeCasts_S128x128_S128x128 = r := by
  funext i; pointwise []

/-- The rotated entry: the row taken in two parts, the second of which is zero. -/
theorem pay2_real (x : FVec Ideal S8192x128 .f32) (A : FVec Ideal S128x128 .bf16) (p : Fin 8192) (q : Fin 128) (f g : ℕ → ℝ)
    (hx : ∀ k : Fin 128, x (ix2 p k) = (f k.val : EReal)) (hA : ∀ k : Fin 128, A (ix2 k q) = (g k.val : EReal)) :
    k0_pay2 (F := Ideal) x A (ix2 p q) = ((∑ k ∈ Finset.range 128, f k * g k : ℝ) : EReal) := by
  have h1 := mm_real x A p q f g hx hA
  have h2 := mm_real (subf (F := Ideal) (φ := .f32) x x) A p q (fun _ => 0) g (fun k => by
    show x (ix2 p k) - x (ix2 p k) = _
    rw [hx, ← EReal.coe_sub, sub_self]) hA
  have e : k0_pay2 (F := Ideal) x A (ix2 p q) = mm x A (ix2 p q) + mm (subf (F := Ideal) (φ := .f32) x x) A (ix2 p q) := by
    unfold k0_pay2
    rw [shapeCast_self']
    rfl
  rw [e, h1, h2, ← EReal.coe_add]
  simp

section Body
variable (x : FVec Ideal S8192x128 .f32) (A B : FVec Ideal S128x128 .bf16) (M C : ℕ → EReal)

/-- The rotated entries. -/
def bY : FVec Ideal S8192x128 .f32 := k0_pay2 x A
/-- The first comparison. -/
def bM3 : IVec S8192x128 1 := k0_pay3 (F := Ideal) x A (M 7)
/-- The second. -/
def bM2 : IVec S8192x128 1 := k0_pay4 (F := Ideal) x A (M 3) (M 7) (M 11)
/-- The third's threshold. -/
def bT : FVec Ideal S8192x128 .f32 := k0_pay5 x A (M 1) (M 3) (M 5) (M 7) (M 9) (M 11) (M 13)
/-- The third. -/
def bM1 : IVec S8192x128 1 := k0_pay6 (F := Ideal) (bY x A) (bT x A M)
/-- The last one's threshold. -/
def bL : FVec Ideal S8192x128 .f32 :=
  k0_pay7 (bY x A) (M 0) (M 2) (M 4) (M 6) (M 8) (M 10) (M 12) (M 14) (bM3 x A M) (bM2 x A M) (bT x A M)
/-- The last. -/
def bM0 : IVec S8192x128 1 :=
  k0_pay8 (F := Ideal) (bY x A) (M 0) (M 2) (M 4) (M 6) (M 8) (M 10) (M 12) (M 14) (bM3 x A M) (bM2 x A M) (bT x A M)
/-- The second result's block. -/
def bIdx : IVec S8192x128 32 :=
  k0_pay9 (F := Ideal) (bY x A) (M 0) (M 2) (M 4) (M 6) (M 8) (M 10) (M 12) (M 14) (bM3 x A M) (bM2 x A M) (bT x A M)
/-- The first result's block. -/
def bOut : FVec Ideal S8192x128 .f32 :=
  k0_pay1 (bM3 x A M) (bM2 x A M) (bM1 x A M) (bL x A M) (bM0 x A M) (C 0) (C 2)
    (k0_pay10 (bY x A) (bM2 x A M) (bT x A M) (C 8) (C 10) (C 12) (C 14)) (k0_pay11 (bY x A) (bT x A M) (C 4) (C 6)) B

variable (i : S8192x128.Idx)

/-- The four comparisons at an entry are its bits; the last threshold is the one they lead to. -/
theorem bits_at : ∃ b3 b2 b1 b0, Bits M (bY x A i) b3 b2 b1 b0 ∧ bM3 x A M i = BitVec.ofBool b3 ∧ bM2 x A M i = BitVec.ofBool b2
    ∧ bM1 x A M i = BitVec.ofBool b1 ∧ bM0 x A M i = BitVec.ofBool b0 ∧ bL x A M i = M (lead b3 b2 b1) := by
  have e3 : bM3 x A M i = BitVec.ofBool (decide (M 7 < bY x A i)) := rfl
  generalize hb3 : decide (M 7 < bY x A i) = b3 at e3
  have e2 : bM2 x A M i = BitVec.ofBool (decide (Scalar.select (bM3 x A M i) (M 11) (M 3) < bY x A i)) := rfl
  have t2 : Scalar.select (bM3 x A M i) (M 11) (M 3) = M (8 * b3.toNat + 3) := by rw [e3]; cases b3 <;> rfl
  rw [t2] at e2
  generalize hb2 : decide (M (8 * b3.toNat + 3) < bY x A i) = b2 at e2
  have e1 : bM1 x A M i = BitVec.ofBool (decide (Scalar.select (bM3 x A M i) (Scalar.select (bM2 x A M i) (M 13) (M 9))
    (Scalar.select (bM2 x A M i) (M 5) (M 1)) < bY x A i)) := rfl
  have t1 : Scalar.select (bM3 x A M i) (Scalar.select (bM2 x A M i) (M 13) (M 9)) (Scalar.select (bM2 x A M i) (M 5) (M 1))
      = M (8 * b3.toNat + 4 * b2.toNat + 1) := by rw [e3, e2]; cases b3 <;> cases b2 <;> rfl
  rw [t1] at e1
  generalize hb1 : decide (M (8 * b3.toNat + 4 * b2.toNat + 1) < bY x A i) = b1 at e1
  have eL : bL x A M i = M (lead b3 b2 b1) := by
    have h : bL x A M i = Scalar.select (bM3 x A M i)
      (Scalar.select (bM2 x A M i) (Scalar.select (bM1 x A M i) (M 14) (M 12)) (Scalar.select (bM1 x A M i) (M 10) (M 8)))
      (Scalar.select (bM2 x A M i) (Scalar.select (bM1 x A M i) (M 6) (M 4)) (Scalar.select (bM1 x A M i) (M 2) (M 0))) := rfl
    rw [h, e3, e2, e1]
    cases b3 <;> cases b2 <;> cases b1 <;> rfl
  have e0 : bM0 x A M i = BitVec.ofBool (decide (bL x A M i < bY x A i)) := rfl
  rw [eL] at e0
  exact ⟨b3, b2, b1, _, ⟨hb3.symm, hb2.symm, hb1.symm, rfl⟩, e3, e2, e1, e0, eL⟩

/-- The second result's block holds the bits' number. -/
theorem idx_at (b3 b2 b1 b0 : Bool) (e3 : bM3 x A M i = BitVec.ofBool b3) (e2 : bM2 x A M i = BitVec.ofBool b2)
    (e1 : bM1 x A M i = BitVec.ofBool b1) (e0 : bM0 x A M i = BitVec.ofBool b0) :
    bIdx x A M i = BitVec.ofNat 32 (lead b3 b2 b1 + b0.toNat) := by
  have h : bIdx x A M i = IntOp.addi (IntOp.addi (IntOp.addi (Scalar.select (bM3 x A M i) 8#32 0#32) (Scalar.select (bM2 x A M i) 4#32 0#32))
    (Scalar.select (bM1 x A M i) 2#32 0#32)) (Scalar.select (bM0 x A M i) 1#32 0#32) := rfl
  rw [h, e3, e2, e1, e0]
  cases b3 <;> cases b2 <;> cases b1 <;> cases b0 <;> rfl

/-- The entries that the kernel rotates back. -/
def bTaken : FVec Ideal S8192x128 .f32 := fun i =>
  Scalar.select (bM0 x A M i)
    (((2 * (Real.sqrt 128)⁻¹ : ℝ) : EReal) * bL x A M i - Scalar.select (bM3 x A M i)
      (Scalar.select (bM2 x A M i) (Scalar.select (bM1 x A M i) (C 14) (C 12)) (Scalar.select (bM1 x A M i) (C 10) (C 8)))
      (Scalar.select (bM2 x A M i) (Scalar.select (bM1 x A M i) (C 6) (C 4)) (Scalar.select (bM1 x A M i) (C 2) (C 0))))
    (Scalar.select (bM3 x A M i)
      (Scalar.select (bM2 x A M i) (Scalar.select (bM1 x A M i) (C 14) (C 12)) (Scalar.select (bM1 x A M i) (C 10) (C 8)))
      (Scalar.select (bM2 x A M i) (Scalar.select (bM1 x A M i) (C 6) (C 4)) (Scalar.select (bM1 x A M i) (C 2) (C 0))))

/-- The first result's block is their product with the second matrix. -/
theorem out_eq : bOut x A B M C = mm (bTaken x A M C) B := by
  unfold bOut k0_pay1
  rw [shapeCast_self']
  have hn : Named.named (F := Ideal) (φ := .f32) κ "two_scale" 0x3E3504F3#32 = ((2 * (Real.sqrt 128)⁻¹ : ℝ) : EReal) :=
    IdealRules.named_const.ideal_named_scalar _ _ _ _ rfl
  rw [hn]
  rfl

variable {a : Args} (hC : Increasing 16 a.C) (n : ℕ)
  (hM : ∀ k < 15, M k = (mids a.C k : EReal))
  (hx : ∀ (p : Fin 8192) (k : Fin 128), x (ix2 p k) = (a.X ((n + p.val) * 128 + k.val) : EReal))
  (hA : ∀ k l : Fin 128, A (ix2 k l) = ((a.S k.val * sgn (odd 7 k.val l.val) : ℝ) : EReal))
include hC hM hx hA

/-- At an entry the bits' number is the cell, and what is taken back is its centroid. -/
theorem cell_at (p : Fin 8192) (q : Fin 128) : bIdx x A M (ix2 p q) = BitVec.ofNat 32 (a.cell (n + p) q)
    ∧ ((∀ k < 16, C k = (a.C k : EReal)) → bTaken x A M C (ix2 p q) = (a.C (a.cell (n + p) q) : EReal)) := by
  have hY : bY x A (ix2 p q) = (a.rot (n + p) q : EReal) := by
    refine (pay2_real x A p q (fun k => a.X ((n + p) * 128 + k)) (fun k => a.S k * sgn (odd 7 k q)) (hx p) fun k => hA k q).trans ?_
    simp only [Args.rot, mul_assoc]
  obtain ⟨b3, b2, b1, b0, hb, e3, e2, e1, e0, eL⟩ := bits_at x A M (ix2 p q)
  rw [hY] at hb
  have hcell := (a.isCell hC (n + p) q).unique (hb.cell hC hM)
  have hl : lead b3 b2 b1 < 15 := by cases b3 <;> cases b2 <;> cases b1 <;> decide
  refine ⟨by rw [hcell]; exact idx_at x A M (ix2 p q) b3 b2 b1 b0 e3 e2 e1 e0, fun hCn => ?_⟩
  have t : Scalar.select (bM3 x A M (ix2 p q))
      (Scalar.select (bM2 x A M (ix2 p q)) (Scalar.select (bM1 x A M (ix2 p q)) (C 14) (C 12)) (Scalar.select (bM1 x A M (ix2 p q)) (C 10) (C 8)))
      (Scalar.select (bM2 x A M (ix2 p q)) (Scalar.select (bM1 x A M (ix2 p q)) (C 6) (C 4)) (Scalar.select (bM1 x A M (ix2 p q)) (C 2) (C 0)))
      = (a.C (lead b3 b2 b1) : EReal) := by
    rw [← hCn _ (by omega), e3, e2, e1]
    cases b3 <;> cases b2 <;> cases b1 <;> rfl
  unfold bTaken
  rw [t, e0, eL, hM _ hl, hcell, ← Bits.value, Scalar.select_ofBool]

/-- The first result's block holds the rows rotated back. -/
theorem out_at (hCn : ∀ k < 16, C k = (a.C k : EReal))
    (hB : ∀ k l : Fin 128, B (ix2 k l) = ((sgn (odd 7 k.val l.val) * (scale * a.S l.val) : ℝ) : EReal)) (p : Fin 8192) (q : Fin 128) :
    bOut x A B M C (ix2 p q) = (a.back (n + p) q : EReal) := by
  rw [out_eq, mm_real _ _ p q (fun k => a.C (a.cell (n + p) k)) (fun k => sgn (odd 7 k q) * (scale * a.S q))
    (fun k => (cell_at x A M C hC n hM hx hA p k).2 hCn) fun k => hB k q, Args.back, Finset.sum_mul, Finset.sum_mul]
  refine congrArg _ (Finset.sum_congr rfl fun k _ => ?_)
  ring

end Body

end Cert.Proof

end
-- ==== Proof.KernelHost.lean ====
/- What the kernel's host operations prepare: the two matrices and the thresholds. -/
module

public import proofs.«01_k».proof.Proof.Gen.KernelIdeal.Value
public import proofs.«01_k».proof.Proof.Halving
public import proofs.«01_k».proof.Proof.Sign
public import Idealize.ShloMosaic.Lib.StableHlo.ReadAt
public import Idealize.ShloMosaic.Lib.Pointwise

@[expose] public section

set_option maxRecDepth 16384

noncomputable section

namespace Cert.Proof

open Idealize.ShloMosaic Idealize.ShloMosaic.TcCoe Cert.KernelIdeal Cert.KernelIdeal.Gen

/-- The table's entries are the signs of the Hadamard matrix. -/
theorem table_at (i j : Fin 128) : Ideal.ofBits .f32 (lit0 (S128x128.rowMajor (ix2 i j))) = (sgn (odd 7 i j) : EReal) := by
  have h : i.val * 128 + j.val < 16384 := by omega
  have e : S128x128.rowMajor (ix2 i j) = ⟨i.val * 128 + j.val, h⟩ := Fin.ext (Shape.rowMajor_val_two _)
  rw [e, lit0_eq _ _ i.isLt j.isLt h]
  cases odd 7 i j
  · exact bits_one
  · exact bits_neg_one

/-- The scale, its numerator read. -/
theorem scale_one : Ideal.div 1 (Ideal.sqrt (Ideal.ofBits .f32 0x43000000#32)) = (scale : EReal) := by
  rw [← scale_eq, bits_one, EReal.coe_one]

variable (m : (ℓ : Loc nD τ sig) → Buf (Elt Ideal) ℓ) (c : Dev nD) {a : Args}
  (H : a.Of (m ((c : Thread nD τ).loc main_arg0)) (m ((c : Thread nD τ).loc main_arg1)) (m ((c : Thread nD τ).loc main_arg2)))
include H

/-- The first matrix: the signs of the rows times the table. -/
theorem host_A (i j : Fin 128) : V m c main_v5 (ix2 i j) = ((a.S i * sgn (odd 7 i j) : ℝ) : EReal) := by
  unfold V
  after_reads_at
  refine (congrArg₂ (· * ·) (H.signs (ix1 i)) (table_at i j)).trans ?_
  rw [EReal.coe_mul]
  rfl

/-- The second matrix: the table times the scaled signs of the columns. -/
theorem host_B (i j : Fin 128) : V m c main_v11 (ix2 i j) = ((sgn (odd 7 i j) * (scale * a.S j) : ℝ) : EReal) := by
  unfold V
  after_reads_at
  refine (congrArg₂ (· * ·) (table_at i j) (congrArg₂ (· * ·) scale_one (H.signs (ix1 j)))).trans ?_
  rw [EReal.coe_mul, EReal.coe_mul]
  rfl

/-- The thresholds. -/
theorem host_M (k : Fin 15) : V m c main_v18 (ix1 k) = (mids a.C k : EReal) := by
  unfold V
  after_reads_at
  refine (congrArg₂ Ideal.div (congrArg₂ (· * ·) bits_half (congrArg₂ (· + ·) (H.cents (ix1 ⟨1 + k, by omega⟩)) (H.cents (ix1 ⟨k, by omega⟩)))) scale_one).trans ?_
  dsimp only
  rw [Ideal.div_coe scale_pos.ne', ← EReal.coe_add, ← EReal.coe_mul, ← EReal.coe_mul]
  congr 1
  show 1 / 2 * (a.C (1 + k) + a.C k) * (1 / scale) = _
  rw [mids, Nat.add_comm 1]
  ring

end Cert.Proof

end
-- ==== Proof.KernelArrays.lean ====
/- The kernel's two result arrays: the points' blocks put together. -/
module

public import proofs.«01_k».proof.Proof.KernelBlock
public import proofs.«01_k».proof.Proof.KernelHost
public import Idealize.ShloMosaic.Lib.Pipeline.ValueKit
public import Idealize.ShloMosaic.Lib.Pipeline.ValueKit.Point

@[expose] public section

set_option maxRecDepth 16384
set_option maxHeartbeats 2000000

noncomputable section

namespace Cert.Proof

open Idealize.ShloMosaic Idealize.ShloMosaic.TcCoe Cert.KernelIdeal Cert.KernelIdeal.Gen

/-- One element fits at each place of a vector. -/
theorem one_fits {K k : ℕ} (h : k < K) (d : Fin 1) : ![k] d + ![1] d ≤ (⟨1, ![K]⟩ : Shape).size d := by
  obtain rfl : d = 0 := Subsingleton.elim _ _
  exact h

/-- One element is there. -/
theorem one_there : 0 < (⟨1, ![1]⟩ : Shape).numel := by decide

/-- The load of one element of a vector, as a sequence in the element's place. -/
def seqOf {K : ℕ} (x : FVec Ideal ⟨1, ![K]⟩ .f32) (k : ℕ) : EReal :=
  if h : k < K then
    View.ld (Val := Elt Ideal) (S := ⟨1, ![K]⟩) (e' := .f32) x (Rect.unit (s := ⟨1, ![K]⟩) ![k] ![1] (one_fits h)) (Shape.Idx.first one_there)
  else 0

/-- It is the element. -/
theorem seqOf_at {K : ℕ} (x : FVec Ideal ⟨1, ![K]⟩ .f32) (k : ℕ) (h : k < K) : seqOf x k = x (ix1 ⟨k, h⟩) := by
  refine (dif_pos h).trans (congrArg x ?_)
  funext d
  obtain rfl : d = 0 := Subsingleton.elim _ _
  apply Fin.ext
  show k + 1 * 0 = k
  omega

/-- An index of a block of rows by its two coordinates. -/
theorem ix2_of (y : S8192x128.Idx) : ∃ (p : Fin 8192) (q : Fin 128), y = ix2 p q :=
  ⟨⟨(y 0).val, (y 0).isLt⟩, ⟨(y 1).val, (y 1).isLt⟩, by
    funext d
    refine Fin.cases rfl (fun d => ?_) d
    refine Fin.cases rfl (fun d => d.elim0) d⟩

/-- The indices of the blocks: the rows' windows move with the point, the others stay. -/
theorem win_idx (t : Fin cfg0.N) : win0_0.index t = ![0] ∧ win0_1.index t = ![0] ∧ win0_2.index t = ![t.val, 0] ∧ win0_3.index t = ![0, 0]
    ∧ win0_4.index t = ![0, 0] ∧ win0_5.index t = ![t.val, 0] ∧ win0_6.index t = ![t.val, 0] := by
  revert t
  decide +kernel

variable (m : (ℓ : Loc nD τ sig) → Buf (Elt Ideal) ℓ) (c : Dev nD)

/-- The second result's block at a point, as the body computes it of the blocks that it reads. -/
theorem point6 (t : Fin cfg0.N) : (outsAt0 m c t).2 = bIdx (iblk m c 2 t) (iblk m c 3 t) (seqOf (iblk m c 0 t)) := by
  unfold outsAt0
  dsimp only
  frame_out
  rfl

/-- The first result's. -/
theorem point5 (t : Fin cfg0.N) :
    (outsAt0 m c t).1 = bOut (iblk m c 2 t) (iblk m c 3 t) (iblk m c 4 t) (seqOf (iblk m c 0 t)) (seqOf (iblk m c 1 t)) := by
  unfold outsAt0
  dsimp only
  frame_out
  rfl

variable {a : Args}
  (H : a.Of (m ((c : Thread nD τ).loc main_arg0)) (m ((c : Thread nD τ).loc main_arg1)) (m ((c : Thread nD τ).loc main_arg2)))
include H

/-- The rows that a point reads. -/
theorem blk_rows (t : Fin cfg0.N) (p : Fin 8192) (k : Fin 128) :
    iblk m c 2 t (ix2 p k) = (a.X ((t.val * 8192 + p.val) * 128 + k.val) : EReal) := by
  have e : iblk m c 2 t (ix2 p k) = m ((c : Thread nD τ).loc main_arg0) (((cfg0.win 2).blk t).view.emb (ix2 p k)) :=
    congrFun (V_main_arg0 m c) _
  rw [e, H.rows]
  blk_simp [(win_idx t).2.2.1]

/-- The first matrix, whole at every point. -/
theorem blk_A (t : Fin cfg0.N) (k l : Fin 128) : iblk m c 3 t (ix2 k l) = ((a.S k.val * sgn (odd 7 k.val l.val) : ℝ) : EReal) := by
  have e : iblk m c 3 t (ix2 k l) = V m c main_v5 (ix2 k l) := by
    blk_ext [iblk, (win_idx t).2.2.2.1]
  rw [e]
  exact host_A m c H k l

/-- The second. -/
theorem blk_B (t : Fin cfg0.N) (k l : Fin 128) : iblk m c 4 t (ix2 k l) = ((sgn (odd 7 k.val l.val) * (scale * a.S l.val) : ℝ) : EReal) := by
  have e : iblk m c 4 t (ix2 k l) = V m c main_v11 (ix2 k l) := by
    blk_ext [iblk, (win_idx t).2.2.2.2.1]
  rw [e]
  exact host_B m c H k l

/-- The thresholds. -/
theorem blk_M (t : Fin cfg0.N) (k : ℕ) (hk : k < 15) : seqOf (iblk m c 0 t) k = (mids a.C k : EReal) := by
  have e : iblk m c 0 t (ix1 ⟨k, hk⟩) = V m c main_v18 (ix1 ⟨k, hk⟩) := by
    blk_ext [iblk, (win_idx t).1]
  exact (seqOf_at (iblk m c 0 t) k hk).trans (e.trans (host_M m c H ⟨k, hk⟩))

/-- The centroids. -/
theorem blk_C (t : Fin cfg0.N) (k : ℕ) (hk : k < 16) : seqOf (iblk m c 1 t) k = (a.C k : EReal) := by
  have e : iblk m c 1 t (ix1 ⟨k, hk⟩) = V m c main_arg2 (ix1 ⟨k, hk⟩) := by
    blk_ext [iblk, (win_idx t).2.1]
  exact (seqOf_at (iblk m c 1 t) k hk).trans (e.trans ((congrFun (V_main_arg2 m c) _).trans (H.cents _)))

/-- The kernel's second result: the cells' numbers. -/
theorem array6 : (dats m 0 c).arrAt 6 cfg0.N = (fun i => BitVec.ofNat 32 (a.cell (i 0) (i 1)) : IVec S65536x128 32) := by
  refine (dats m 0 c).arrAt_eq_of_covers 6 _ (by decide +kernel) fun t hf y => ?_
  blk_simp
  rw [after0_6, point6, (win_idx t).2.2.2.2.2.2]
  obtain ⟨p, q, rfl⟩ := ix2_of y
  refine (cell_at _ _ _ (fun _ => 0) H.sorted (t.val * 8192) (blk_M m c H t) (blk_rows m c H t) (blk_A m c H t) p q).1.trans ?_
  show BitVec.ofNat 32 (a.cell (t.val * 8192 + p.val) q.val) = BitVec.ofNat 32 (a.cell (t.val * 8192 + p.val) (0 * 128 + q.val))
  rw [Nat.zero_mul, Nat.zero_add]

/-- The kernel's first result: the rows rotated back. -/
theorem array5 : (dats m 0 c).arrAt 5 cfg0.N = (fun i => (a.back (i 0) (i 1) : EReal) : FVec Ideal S65536x128 .f32) := by
  refine (dats m 0 c).arrAt_eq_of_covers 5 _ (by decide +kernel) fun t hf y => ?_
  blk_simp
  rw [after0_5, point5, (win_idx t).2.2.2.2.2.1]
  obtain ⟨p, q, rfl⟩ := ix2_of y
  refine (out_at _ _ _ _ _ H.sorted (t.val * 8192) (blk_M m c H t) (blk_rows m c H t) (blk_A m c H t) (blk_C m c H t) (blk_B m c H t) p q).trans ?_
  show ((a.back (t.val * 8192 + p.val) q.val : ℝ) : EReal) = ((a.back (t.val * 8192 + p.val) (0 * 128 + q.val) : ℝ) : EReal)
  rw [Nat.zero_mul, Nat.zero_add]

end Cert.Proof

end
-- ==== Proof.RefRotate.lean ====
/- The reference's two transforms: seven butterflies of the row-major sequence. -/
module

public import proofs.«01_k».proof.Proof.Gen.ReferenceIdeal.Run
public import proofs.«01_k».proof.Proof.Butterfly
public import proofs.«01_k».proof.Proof.Walsh

@[expose] public section

set_option maxRecDepth 16384

noncomputable section

namespace Cert.Proof

open Idealize.ShloMosaic Cert.ReferenceIdeal Cert.ReferenceIdeal.Gen Cert.ReferenceIdeal.Value

/-- One stage as the reference writes it: the two halves of an array, their sums and differences stacked. -/
theorem stage_step {B N h : ℕ} {X : FVec Ideal ⟨4, ![B, N, 2, h]⟩ .f32} {f : ℕ → EReal} (hX : Flat X f)
    (hs : (⟨4, ![B, N, 2, h]⟩ : Shape).Slices ![0, 0, 0, 0] ⟨4, ![B, N, 1, h]⟩)
    (hs' : (⟨4, ![B, N, 2, h]⟩ : Shape).Slices ![0, 0, 1, 0] ⟨4, ![B, N, 1, h]⟩)
    (hc hc' : (⟨4, ![B, N, 1, h]⟩ : Shape).ShapeCasts ⟨3, ![B, N, h]⟩)
    (hd hd' : (⟨3, ![B, N, h]⟩ : Shape).BroadcastsInDim ⟨4, ![B, N, 1, h]⟩ ![0, 1, 3])
    (hk : Shape.Concatenates [⟨4, ![B, N, 1, h]⟩, ⟨4, ![B, N, 1, h]⟩] ⟨4, ![B, N, 2, h]⟩ 2)
    {t : Shape} (ht : (⟨4, ![B, N, 2, h]⟩ : Shape).ShapeCasts t)
    (a b : FVec Ideal ⟨3, ![B, N, h]⟩ .f32)
    (ha : a = shapeCast ⟨3, ![B, N, h]⟩ (extractStridedSlice ⟨4, ![B, N, 1, h]⟩ ![0, 0, 0, 0] X hs) hc)
    (hb : b = shapeCast ⟨3, ![B, N, h]⟩ (extractStridedSlice ⟨4, ![B, N, 1, h]⟩ ![0, 0, 1, 0] X hs') hc') :
    Flat (shapeCast t (concatenate ⟨4, ![B, N, 2, h]⟩ 2
      [⟨⟨4, ![B, N, 1, h]⟩, broadcastInDim ⟨4, ![B, N, 1, h]⟩ ![0, 1, 3] hd (addf a b)⟩,
       ⟨⟨4, ![B, N, 1, h]⟩, broadcastInDim ⟨4, ![B, N, 1, h]⟩ ![0, 1, 3] hd' (subf a b)⟩] hk) ht) (bfly h f) := by
  subst ha hb
  exact (stage_flat _ _ (half_apply hX 0 (by omega) hs hc) (half_apply hX 1 (by omega) hs' hc') hd hd' hk).cast ht

variable (V : Valuation τ sig (Elt Ideal)) {f : ℕ → EReal}

/-- The first transform, its result still unscaled. -/
theorem first_flat (h : Flat (α := EReal) (s := S65536x64x2x1) (res_main_v5 (F := Ideal) V) f) :
    Flat (α := EReal) (s := S65536x128) (shapeCast S65536x128 (concatenate S65536x1x2x64 2
      [⟨S65536x1x1x64, broadcastInDim S65536x1x1x64 ![0, 1, 3] bcast_S65536x1x64_S65536x1x1x64_0_1_3 (addf (F := Ideal) (φ := .f32) (res_main_v67 V) (res_main_v69 V))⟩,
       ⟨S65536x1x1x64, broadcastInDim S65536x1x1x64 ![0, 1, 3] bcast_S65536x1x64_S65536x1x1x64_0_1_3 (subf (F := Ideal) (φ := .f32) (res_main_v67 V) (res_main_v69 V))⟩]
      concatenates_S65536x1x1x64_S65536x1x1x64_S65536x1x2x64_d2) shapeCasts_S65536x1x2x64_S65536x128) (stages 7 f) := by
  have h1 : Flat (α := EReal) (s := S65536x32x2x2) (res_main_v15 (F := Ideal) V) (stages 1 f) :=
    stage_step h _ _ _ _ _ _ _ _ _ _ rfl rfl
  have h2 : Flat (α := EReal) (s := S65536x16x2x4) (res_main_v25 (F := Ideal) V) (stages 2 f) :=
    stage_step h1 _ _ _ _ _ _ _ _ _ _ rfl rfl
  have h3 : Flat (α := EReal) (s := S65536x8x2x8) (res_main_v35 (F := Ideal) V) (stages 3 f) :=
    stage_step h2 _ _ _ _ _ _ _ _ _ _ rfl rfl
  have h4 : Flat (α := EReal) (s := S65536x4x2x16) (res_main_v45 (F := Ideal) V) (stages 4 f) :=
    stage_step h3 _ _ _ _ _ _ _ _ _ _ rfl rfl
  have h5 : Flat (α := EReal) (s := S65536x2x2x32) (res_main_v55 (F := Ideal) V) (stages 5 f) :=
    stage_step h4 _ _ _ _ _ _ _ _ _ _ rfl rfl
  have h6 : Flat (α := EReal) (s := S65536x1x2x64) (res_main_v65 (F := Ideal) V) (stages 6 f) :=
    stage_step h5 _ _ _ _ _ _ _ _ _ _ rfl rfl
  exact stage_step h6 _ _ _ _ _ _ _ _ _ _ rfl rfl

/-- The second transform, likewise. -/
theorem second_flat (h : Flat (α := EReal) (s := S65536x64x2x1) (res_main_v209 (F := Ideal) V) f) :
    Flat (α := EReal) (s := S65536x128) (shapeCast S65536x128 (concatenate S65536x1x2x64 2
      [⟨S65536x1x1x64, broadcastInDim S65536x1x1x64 ![0, 1, 3] bcast_S65536x1x64_S65536x1x1x64_0_1_3 (addf (F := Ideal) (φ := .f32) (res_main_v271 V) (res_main_v273 V))⟩,
       ⟨S65536x1x1x64, broadcastInDim S65536x1x1x64 ![0, 1, 3] bcast_S65536x1x64_S65536x1x1x64_0_1_3 (subf (F := Ideal) (φ := .f32) (res_main_v271 V) (res_main_v273 V))⟩]
      concatenates_S65536x1x1x64_S65536x1x1x64_S65536x1x2x64_d2) shapeCasts_S65536x1x2x64_S65536x128) (stages 7 f) := by
  have h1 : Flat (α := EReal) (s := S65536x32x2x2) (res_main_v219 (F := Ideal) V) (stages 1 f) :=
    stage_step h _ _ _ _ _ _ _ _ _ _ rfl rfl
  have h2 : Flat (α := EReal) (s := S65536x16x2x4) (res_main_v229 (F := Ideal) V) (stages 2 f) :=
    stage_step h1 _ _ _ _ _ _ _ _ _ _ rfl rfl
  have h3 : Flat (α := EReal) (s := S65536x8x2x8) (res_main_v239 (F := Ideal) V) (stages 3 f) :=
    stage_step h2 _ _ _ _ _ _ _ _ _ _ rfl rfl
  have h4 : Flat (α := EReal) (s := S65536x4x2x16) (res_main_v249 (F := Ideal) V) (stages 4 f) :=
    stage_step h3 _ _ _ _ _ _ _ _ _ _ rfl rfl
  have h5 : Flat (α := EReal) (s := S65536x2x2x32) (res_main_v259 (F := Ideal) V) (stages 5 f) :=
    stage_step h4 _ _ _ _ _ _ _ _ _ _ rfl rfl
  have h6 : Flat (α := EReal) (s := S65536x1x2x64) (res_main_v269 (F := Ideal) V) (stages 6 f) :=
    stage_step h5 _ _ _ _ _ _ _ _ _ _ rfl rfl
  exact stage_step h6 _ _ _ _ _ _ _ _ _ _ rfl rfl

end Cert.Proof

end
-- ==== Proof.RefCells.lean ====
/- The reference's search: sixteen rounds, each against one centroid. -/
module

public import proofs.«01_k».proof.Proof.Gen.ReferenceIdeal.Run
public import proofs.«01_k».proof.Proof.Cells
public import proofs.«01_k».proof.Proof.Consts
public import Idealize.ShloMosaic.Lib.Pointwise

@[expose] public section

set_option maxRecDepth 16384

noncomputable section

namespace Cert.Proof

open Idealize.ShloMosaic Cert.ReferenceIdeal Cert.ReferenceIdeal.Gen Cert.ReferenceIdeal.Value

/-- An array of sixteen as a sequence. -/
def seq16 (c : FVec Ideal S16 .f32) (k : ℕ) : EReal := if h : k < 16 then c (ix1 ⟨k, h⟩) else 0

/-- After `k` rounds, `b` holds the least distances and `p` the places. -/
def Found (c : ℕ → EReal) (Y b : FVec Ideal S65536x128 .f32) (p : IVec S65536x128 32) (k : ℕ) : Prop :=
  ∀ i, b i = best c (Y i) k ∧ p i = BitVec.ofNat 32 (place c (Y i) k)

/-- A round's distances: each entry against centroid `k`. -/
theorem dist_at (c : FVec Ideal S16 .f32) (Y : FVec Ideal S65536x128 .f32) {k : ℕ} (hk : k < 16)
    (hs : S16.Slices ![k] S1) (hc : S1.ShapeCasts S_) (hd : S_.BroadcastsInDim S65536x128 ![]) (i : S65536x128.Idx) :
    Host.absf (subf Y (broadcastInDim S65536x128 ![] hd (shapeCast S_ (extractStridedSlice S1 ![k] c hs) hc))) i
      = max (Y i - seq16 c k) (-(Y i - seq16 c k)) := by
  have e : ∀ q : S1.Idx, extractStridedSlice S1 ![k] c hs q = seq16 c k := fun q => by
    rw [seq16, dif_pos hk]
    show c _ = c _
    congr 1
    funext d
    obtain rfl : d = 0 := Subsingleton.elim _ _
    apply Fin.ext
    have h1 : (q 0).val < 1 := (q 0).isLt
    show k + (q 0).val = k
    omega
  show max (Y i - extractStridedSlice S1 ![k] c hs _) (-(Y i - extractStridedSlice S1 ![k] c hs _)) = _
  rw [e]

/-- One round: compare, keep the smaller distance and its place. -/
theorem Found.step {c : FVec Ideal S16 .f32} {Y b : FVec Ideal S65536x128 .f32} {p : IVec S65536x128 32} {k : ℕ}
    (h : Found (seq16 c) Y b p k) (hk : k < 16)
    {hs : S16.Slices ![k] S1} {hc : S1.ShapeCasts S_} {hd : S_.BroadcastsInDim S65536x128 ![]}
    (D : FVec Ideal S65536x128 .f32) (w : IVec S65536x128 1)
    (hD : D = Host.absf (subf Y (broadcastInDim S65536x128 ![] hd (shapeCast S_ (extractStridedSlice S1 ![k] c hs) hc))))
    (hw : w = cmpf .olt D b) :
    Found (seq16 c) Y (select w D b) (select w (broadcastInDim S65536x128 ![] hd (constantI S_ 32 (BitVec.ofNat 32 k))) p) (k + 1) := by
  intro i
  have hDi : D i = _ := (congrFun hD i).trans (dist_at c Y hk hs hc hd i)
  have hwi : w i = BitVec.ofBool (decide (D i < b i)) := congrFun hw i
  rw [best_succ, place_succ, ← (h i).1, ← hDi]
  constructor
  · show Scalar.select (w i) (D i) (b i) = _
    rw [hwi, Scalar.select_def]; by_cases hlt : D i < b i <;> simp [hlt]
  · show Scalar.select (w i) (BitVec.ofNat 32 k) (p i) = _
    rw [hwi, Scalar.select_def, (h i).2]; by_cases hlt : D i < b i <;> simp [hlt]

variable (V : Valuation τ sig (Elt Ideal))

/-- The reference's indices are the places of the least distances. -/
theorem ref_place (i : S65536x128.Idx) : res_main_v207 (F := Ideal) V i
    = BitVec.ofNat 32 (place (seq16 (V (Proc.devRef .tc main_arg2))) (res_main_v77 (F := Ideal) V i) 16) := by
  have h0 : Found (seq16 (V (Proc.devRef .tc main_arg2))) (res_main_v77 (F := Ideal) V) (res_main_v78 (F := Ideal) V)
      (broadcastInDim S65536x128 ![] bcast_S_S65536x128 (constantI S_ 32 0#32)) 0 := fun i => ⟨bits_inf, rfl⟩
  have h1 : Found _ _ (res_main_v86 V) _ 1 := h0.step (by omega) (res_main_v84 V) (res_main_v85 V) rfl rfl
  have h2 : Found _ _ (res_main_v94 V) _ 2 := h1.step (by omega) (res_main_v92 V) (res_main_v93 V) rfl rfl
  have h3 : Found _ _ (res_main_v102 V) _ 3 := h2.step (by omega) (res_main_v100 V) (res_main_v101 V) rfl rfl
  have h4 : Found _ _ (res_main_v110 V) _ 4 := h3.step (by omega) (res_main_v108 V) (res_main_v109 V) rfl rfl
  have h5 : Found _ _ (res_main_v118 V) _ 5 := h4.step (by omega) (res_main_v116 V) (res_main_v117 V) rfl rfl
  have h6 : Found _ _ (res_main_v126 V) _ 6 := h5.step (by omega) (res_main_v124 V) (res_main_v125 V) rfl rfl
  have h7 : Found _ _ (res_main_v134 V) _ 7 := h6.step (by omega) (res_main_v132 V) (res_main_v133 V) rfl rfl
  have h8 : Found _ _ (res_main_v142 V) _ 8 := h7.step (by omega) (res_main_v140 V) (res_main_v141 V) rfl rfl
  have h9 : Found _ _ (res_main_v150 V) _ 9 := h8.step (by omega) (res_main_v148 V) (res_main_v149 V) rfl rfl
  have h10 : Found _ _ (res_main_v158 V) _ 10 := h9.step (by omega) (res_main_v156 V) (res_main_v157 V) rfl rfl
  have h11 : Found _ _ (res_main_v166 V) _ 11 := h10.step (by omega) (res_main_v164 V) (res_main_v165 V) rfl rfl
  have h12 : Found _ _ (res_main_v174 V) _ 12 := h11.step (by omega) (res_main_v172 V) (res_main_v173 V) rfl rfl
  have h13 : Found _ _ (res_main_v182 V) _ 13 := h12.step (by omega) (res_main_v180 V) (res_main_v181 V) rfl rfl
  have h14 : Found _ _ (res_main_v190 V) _ 14 := h13.step (by omega) (res_main_v188 V) (res_main_v189 V) rfl rfl
  have h15 : Found _ _ (res_main_v198 V) _ 15 := h14.step (by omega) (res_main_v196 V) (res_main_v197 V) rfl rfl
  exact ((h15.step (by omega) (res_main_v204 V) (res_main_v205 V) rfl rfl) i).2

end Cert.Proof

end
-- ==== Proof.RefValue.lean ====
/- The reference's two results, entry by entry. -/
module

public import proofs.«01_k».proof.Proof.RefRotate
public import proofs.«01_k».proof.Proof.RefCells
public import proofs.«01_k».proof.Proof.Spec
public import Idealize.ShloMosaic.Lib.ValueIdxCore
public import Idealize.ShloMosaic.Lib.ReduceAll
public import Idealize.ShloMosaic.Lib.Pointwise

@[expose] public section

set_option maxRecDepth 16384

noncomputable section

namespace Cert.Proof

open Idealize.ShloMosaic Cert.ReferenceIdeal Cert.ReferenceIdeal.Gen Cert.ReferenceIdeal.Value

/-- An index of the rows' array in row-major order. -/
theorem rowMajor_rows (i : S65536x128.Idx) : (S65536x128.rowMajor i).val = (i 0).val * 128 + (i 1).val :=
  Shape.rowMajor_val_two i

/-- A number written with a remainder below 128. -/
theorem split_row {n j : ℕ} (hj : j < 128) : (n * 128 + j) / 128 = n ∧ (n * 128 + j) % 128 = j := by omega

/-- A vector broadcast along the rows. -/
theorem bcast_row (s : FVec Ideal S128 .f32) (i : S65536x128.Idx) :
    broadcastInDim S65536x128 ![0, 1] bcast_S1x128_S65536x128_0_1 (broadcastInDim S1x128 ![1] bcast_S128_S1x128_1 s) i
      = s (ix1 ⟨(i 1).val, (i 1).isLt⟩) := by
  refine (rfl : _ = s _).trans (congrArg s ?_)
  funext d
  obtain rfl : d = 0 := Subsingleton.elim _ _
  rfl

/-- The scale broadcast to every entry. -/
theorem bcast_scale (V : Valuation τ sig (Elt Ideal)) (i : S65536x128.Idx) :
    broadcastInDim S65536x128 ![] bcast_S_S65536x128 (res_main_v1 (F := Ideal) V) i = (scale : EReal) := scale_eq

/-- Seven stages on a row of 128 real entries multiply it by the Hadamard matrix. -/
theorem stages_row (f : ℕ → ℝ) (n j : ℕ) (hj : j < 128) : stages 7 (fun k => ((f k : ℝ) : EReal)) (n * 128 + j)
    = ((∑ i ∈ Finset.range 128, f (n * 128 + i) * sgn (odd 7 i j) : ℝ) : EReal) := by
  rw [stages_coe]
  exact congrArg _ (stages_eq 7 f n j hj)

/-- A number below sixteen is not negative: the index that `take` forms of it is itself. -/
theorem wrapped (w : BitVec 32) (j : ℕ) (hw : w = BitVec.ofNat 32 j) (hj : j < 16) :
    Scalar.select (IntOp.cmpi .slt w 0#32) (IntOp.addi w 16#32) w = BitVec.ofNat 32 j := by
  subst hw
  interval_cases j <;> decide

/-- It is in range. -/
theorem in_range (w : BitVec 32) (j : ℕ) (hw : w = BitVec.ofNat 32 j) (hj : j < 16) :
    IntOp.andi (IntOp.cmpi .sge w 0#32) (IntOp.cmpi .sle w 15#32) = 1#1 := by
  subst hw
  interval_cases j <;> decide

/-- As the start of a slice it is itself. -/
theorem clamped (w : BitVec 32) (j : ℕ) (hw : w = BitVec.ofNat 32 j) (hj : j < 16) : min w.toInt.toNat (16 - 1) = j := by
  subst hw
  interval_cases j <;> decide

variable (V : Valuation τ sig (Elt Ideal)) {a : Args}
  (H : a.Of (V (Proc.devRef .tc main_arg0)) (V (Proc.devRef .tc main_arg1)) (V (Proc.devRef .tc main_arg2)))
include H

/-- The signed rows, in row-major order. -/
theorem signed_flat : Flat (α := EReal) (s := S65536x64x2x1) (res_main_v5 (F := Ideal) V)
    (fun k => ((a.X k * a.S (k % 128) : ℝ) : EReal)) := by
  refine Flat.cast (s := S65536x128) (fun i => ?_) _
  rw [rowMajor_rows, (split_row (i 1).isLt).2, EReal.coe_mul]
  refine congrArg₂ (· * ·) (H.rows i) ((bcast_row _ i).trans (H.signs _))

/-- The first transform's result, scaled: an entry of the rotated rows. -/
theorem ref_rot (i : S65536x128.Idx) : res_main_v77 (F := Ideal) V i = ((a.rot (i 0) (i 1) * scale : ℝ) : EReal) := by
  rw [EReal.coe_mul]
  refine congrArg₂ (· * ·) ((first_flat V (signed_flat V H) i).trans ?_) (bcast_scale V i)
  rw [rowMajor_rows, stages_row _ _ _ (i 1).isLt, Args.rot]
  refine congrArg _ (Finset.sum_congr rfl fun k hk => ?_)
  rw [Finset.mem_range] at hk
  rw [(split_row hk).2]

/-- The reference's second result: the cell's number. -/
theorem ref_cell (i : S65536x128.Idx) : res_main_v207 (F := Ideal) V i = BitVec.ofNat 32 (a.cell (i 0) (i 1)) := by
  rw [ref_place, ref_rot V H, Args.cell]
  refine congrArg _ (place_congr _ 16 fun k hk => ?_).2
  rw [seq16, dif_pos hk]
  exact H.cents _

/-- The index that the gather reads is the cell's number. -/
theorem ref_index (i : S65536x128x1.Idx) : res_main_call32_v5 (F := Ideal) V i = BitVec.ofNat 32 (a.cell (i 0) (i 1)) := by
  refine Eq.trans (broadcastInDim_same _ _ _ i (ix2 (i 0) (i 1)) fun d => ?_)
    (wrapped (res_main_v207 (F := Ideal) V (ix2 (i 0) (i 1))) _ (ref_cell V H (ix2 (i 0) (i 1))) (a.isCell H.sorted _ _).1)
  match d with
  | ⟨0, _⟩ => rfl
  | ⟨1, _⟩ => rfl

/-- What is read there is the cell's centroid. -/
theorem taken_flat : Flat (α := EReal) (s := S65536x64x2x1) (res_main_v209 (F := Ideal) V)
    (fun k => ((a.C (a.cell (k / 128) (k % 128)) : ℝ) : EReal)) := by
  refine Flat.cast (s := S65536x128) (fun i => ?_) _
  rw [rowMajor_rows, (split_row (i 1).isLt).2, (split_row (i 1).isLt).1]
  have hin := Host.reduce_andi_one (andi (cmpi .sge (res_main_call32_v5 (F := Ideal) V) (broadcastInDim S65536x128x1 ![] bcast_S_S65536x128x1 (constantI S_ 32 0#32))) (cmpi .sle (res_main_call32_v5 (F := Ideal) V) (broadcastInDim S65536x128x1 ![0, 1, 2] bcast_S1x1x1_S65536x128x1_0_1_2 (broadcastInDim S1x1x1 ![2] bcast_S1_S1x1x1_2 (constantI S1 32 15#32)))))
    (constantI S_ 1 1#1) reducesTo_S65536x128x1_S65536x128_d2 h_S_ i rfl
    fun k => in_range _ _ (ref_index V H k) (a.isCell H.sorted _ _).1
  refine (Scalar.select_of_eq_one hin _ _).trans ((ValueIdx.gather_take_apply (by omega) _ _ _ i).trans ?_)
  rw [H.cents]
  exact congrArg (fun k => ((a.C k : ℝ) : EReal)) (clamped _ _ (ref_index V H _) (a.isCell H.sorted _ _).1)

/-- The reference's first result: the rows rotated back. -/
theorem ref_back (i : S65536x128.Idx) (y : FVec Ideal S65536x128 .f32)
    (hy : Flat (α := EReal) (s := S65536x128) y (stages 7 fun k => ((a.C (a.cell (k / 128) (k % 128)) : ℝ) : EReal))) :
    mulf (mulf y (broadcastInDim S65536x128 ![] bcast_S_S65536x128 (res_main_v1 (F := Ideal) V)))
      (broadcastInDim S65536x128 ![0, 1] bcast_S1x128_S65536x128_0_1 (broadcastInDim S1x128 ![1] bcast_S128_S1x128_1 (V (Proc.devRef .tc main_arg1)))) i
      = ((a.back (i 0) (i 1) : ℝ) : EReal) := by
  rw [Args.back, EReal.coe_mul, EReal.coe_mul]
  refine congrArg₂ (· * ·) (congrArg₂ (· * ·) ((hy i).trans ?_) (bcast_scale V i)) ((bcast_row _ i).trans (H.signs _))
  rw [rowMajor_rows, stages_row _ _ _ (i 1).isLt]
  refine congrArg _ (Finset.sum_congr rfl fun k hk => ?_)
  rw [Finset.mem_range] at hk
  rw [(split_row hk).1, (split_row hk).2]

end Cert.Proof

end
-- ==== Proof.Algebraic.lean ====
/- The equation: under the precondition, the kernel and the reference end with the same results. -/
module

public import proofs.«01_k».proof.Defs
public import proofs.«01_k».proof.Proof.Pre
public import proofs.«01_k».proof.Proof.KernelArrays
public import proofs.«01_k».proof.Proof.RefValue
public import proofs.«01_k».proof.Proof.Gen.KernelIdeal.Value
public import proofs.«01_k».proof.Proof.Gen.ReferenceIdeal.Run

@[expose] public section

set_option maxRecDepth 16384

noncomputable section

namespace Cert.Proof

open Idealize.ShloMosaic Idealize.ShloMosaic.StableHlo Idealize.ShloMosaic.TcCoe Idealize.SL.Sem

/-- Both programs end with the rows rotated back and the cells' numbers, of the real numbers that the arguments are. -/
theorem algebraic : Cert.algebraic_KernelIdeal_ReferenceIdeal_pre_finite_and_increasing := by
  intro m g m' g' hpre hargs
  choose a H using fun c => pre_args (hpre c)
  refine ⟨fun c => (fun i => (((a c).back (i 0).val (i 1).val : ℝ) : EReal) : FVec Ideal Cert.KernelIdeal.S65536x128 .f32),
    fun c => (fun i => BitVec.ofNat 32 ((a c).cell (i 0).val (i 1).val) : IVec Cert.KernelIdeal.S65536x128 32), ?_, ?_⟩
  · refine (θ_run Cert.KernelIdeal.defs _ _).mono (fun r h c => ?_) (Cert.KernelIdeal.Value.run_blocks (F := Ideal) m g)
    obtain ⟨h5, h6, k⟩ := h c
    exact ⟨h5.trans (array5 m c (H c)), h6.trans (array6 m c (H c)), k⟩
  · refine (θ_run Cert.ReferenceIdeal.defs _ _).mono (fun r h c => ?_) (Cert.ReferenceIdeal.Value.run (F := Ideal) m' g')
    obtain ⟨hb, hi, k⟩ := h c
    have H' : (a c).Of (launchContents m' c (Proc.devRef .tc Cert.ReferenceIdeal.main_arg0))
        (launchContents m' c (Proc.devRef .tc Cert.ReferenceIdeal.main_arg1))
        (launchContents m' c (Proc.devRef .tc Cert.ReferenceIdeal.main_arg2)) := by
      obtain ⟨e0, e1, e2⟩ := hargs c
      refine ⟨fun i => ?_, fun i => ?_, fun i => ?_, (H c).sorted⟩
      · exact (congrFun e0 i).trans ((H c).rows i)
      · exact (congrFun e1 i).trans ((H c).signs i)
      · exact (congrFun e2 i).trans ((H c).cents i)
    refine ⟨hb.trans (funext fun i => ?_), hi.trans (funext fun i => ref_cell _ H' i), k⟩
    exact ref_back _ H' i _ (second_flat _ (taken_flat _ H'))

end Cert.Proof

end
-- ==== Proof.lean ====
/- The certificate's claim, put together: the three programs' frames, the named constant, and the equation of the
   kernel's and the reference's two results over the extended reals, under the precondition. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_and_increasing
public import proofs.«01_k».proof.Proof.Frames
public import proofs.«01_k».proof.Proof.Algebraic

@[expose] public section

noncomputable section

namespace Cert.Proof

/-- Everything that is claimed. -/
theorem claim : Cert.Claim :=
  ⟨Cert.Kernel.Gen.facts, Cert.KernelIdeal.Gen.facts, Cert.ReferenceIdeal.Gen.facts, Cert.Pre_finite_and_increasing.Gen.facts,
    Frames.kernel, Frames.kernelIdeal, Frames.kernelIdeal_pre, Frames.referenceIdeal, Frames.referenceIdeal_pre, Frames.preserves, algebraic⟩

end Cert.Proof

end
